-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_range_KernelIdeal [hPre_ids_in_range_KernelIdeal : Cert.Pre_ids_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range_ReferenceIdeal [hPre_ids_in_range_ReferenceIdeal : Cert.Pre_ids_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ids_in_range_KernelIdeal [hKernelIdeal : Cert.KernelIdeal.Facts] [hPre_ids_in_range_KernelIdeal : Cert.Pre_ids_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_in_range_ReferenceIdeal [hReferenceIdeal : Cert.ReferenceIdeal.Facts] [hPre_ids_in_range_ReferenceIdeal : Cert.Pre_ids_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ids_in_range_KernelIdeal [hKernelIdeal : Cert.KernelIdeal.Facts] [hReferenceIdeal : Cert.ReferenceIdeal.Facts] [hPre_ids_in_range_KernelIdeal : Cert.Pre_ids_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![8192, 1024]⟩ ⟨2, ![16384, 1024]⟩ (Layout.meshBlock [2, 4, 4] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_in_range_KernelIdeal : Cert.Pre_ids_in_range_KernelIdeal.Facts) (hPre_ids_in_range_ReferenceIdeal : Cert.Pre_ids_in_range_ReferenceIdeal.Facts),
    quiescent_Kernel (hKernel := hKernel)
    ∧ quiescent_KernelIdeal (hKernelIdeal := hKernelIdeal)
    ∧ quiescent_KernelIdeal_pre_ids_in_range_KernelIdeal (hKernelIdeal := hKernelIdeal) (hPre_ids_in_range_KernelIdeal := hPre_ids_in_range_KernelIdeal)
    ∧ quiescent_ReferenceIdeal (hReferenceIdeal := hReferenceIdeal)
    ∧ quiescent_ReferenceIdeal_pre_ids_in_range_ReferenceIdeal (hReferenceIdeal := hReferenceIdeal) (hPre_ids_in_range_ReferenceIdeal := hPre_ids_in_range_ReferenceIdeal)
    ∧ preserves_Kernel_KernelIdeal
    ∧ algebraic_KernelIdeal_ReferenceIdeal_pre_ids_in_range_KernelIdeal (hKernelIdeal := hKernelIdeal) (hReferenceIdeal := hReferenceIdeal) (hPre_ids_in_range_KernelIdeal := hPre_ids_in_range_KernelIdeal)
-- ==== Pre_ids_in_range_KernelIdeal.lean ====
abbrev S1024 : Shape := ⟨1, ![1024]⟩
abbrev S8192x1024 : Shape := ⟨2, ![8192, 1024]⟩
abbrev S_ : Shape := ⟨0, ![]⟩

class Facts : Prop where
  bcast_S_S1024 : S_.BroadcastsInDim S1024 (![] : Fin 0 → Fin S1024.rank)

variable [Facts]

def fn {F : FTy → Type} [FloatOps F] (main_arg0 : IVec S1024 32) (main_arg1 : FVec F S8192x1024 .f32) : IVec S1024 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 16384#32
  let main_v2 : IVec S1024 32 := broadcastInDim S1024 ![] bcast_S_S1024 main_c_0
  let main_v3 : IVec S1024 1 := cmpi .slt main_arg0 main_v2
  let main_v4 : IVec S1024 1 := andi main_v1 main_v3
  main_v4
-- ==== Pre_ids_in_range_ReferenceIdeal.lean ====
abbrev S1024 : Shape := ⟨1, ![1024]⟩
abbrev S16384x1024 : Shape := ⟨2, ![16384, 1024]⟩
abbrev S_ : Shape := ⟨0, ![]⟩

class Facts : Prop where
  bcast_S_S1024 : S_.BroadcastsInDim S1024 (![] : Fin 0 → Fin S1024.rank)

variable [Facts]

def fn {F : FTy → Type} [FloatOps F] (main_arg0 : IVec S1024 32) (main_arg1 : FVec F S16384x1024 .f32) : IVec S1024 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 16384#32
  let main_v2 : IVec S1024 32 := broadcastInDim S1024 ![] bcast_S_S1024 main_c_0
  let main_v3 : IVec S1024 1 := cmpi .slt main_arg0 main_v2
  let main_v4 : IVec S1024 1 := andi main_v1 main_v3
  main_v4
-- ==== Kernel.lean ====
abbrev S1024 : Shape := ⟨1, ![1024]⟩
abbrev S8192x1024 : Shape := ⟨2, ![8192, 1024]⟩
abbrev S_ : Shape := ⟨0, ![]⟩
abbrev S1024x1 : Shape := ⟨2, ![1024, 1]⟩
abbrev S1024x1024 : Shape := ⟨2, ![1024, 1024]⟩

abbrev nBuf : Space → Nat
  | .hbm => 42
  | .vmem => 3
  | .smem => 0
  | _ => 0

abbrev bufTy : (tb : Table) → Fin (tcTables nBuf tb) → BufTy
  | .hbm, ⟨0, _⟩ => ⟨S1024, .i32⟩
  | .hbm, ⟨1, _⟩ => ⟨S8192x1024, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S_, .i32⟩
  | .hbm, ⟨13, _⟩ => ⟨S1024, .i32⟩
  | .hbm, ⟨14, _⟩ => ⟨S1024, .i1⟩
  | .hbm, ⟨15, _⟩ => ⟨S_, .i32⟩
  | .hbm, ⟨16, _⟩ => ⟨S1024, .i32⟩
  | .hbm, ⟨17, _⟩ => ⟨S1024, .i1⟩
  | .hbm, ⟨18, _⟩ => ⟨S1024, .i1⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S_, .i32⟩
  | .hbm, ⟨25, _⟩ => ⟨S1024, .i32⟩
  | .hbm, ⟨26, _⟩ => ⟨S1024, .i32⟩
  | .hbm, ⟨27, _⟩ => ⟨S1024x1, .i1⟩
  | .hbm, ⟨28, _⟩ => ⟨S_, .i32⟩
  | .hbm, ⟨29, _⟩ => ⟨S1024, .i32⟩
  | .hbm, ⟨30, _⟩ => ⟨S1024, .i1⟩
  | .hbm, ⟨31, _⟩ => ⟨S_, .i32⟩
  | .hbm, ⟨32, _⟩ => ⟨S1024, .i32⟩
  | .hbm, ⟨33, _⟩ => ⟨S1024, .i32⟩
  | .hbm, ⟨34, _⟩ => ⟨S1024, .i32⟩
  | .hbm, ⟨35, _⟩ => ⟨S1024x1, .i32⟩
  | .hbm, ⟨36, _⟩ => ⟨S1024x1024, .f32⟩
  | .hbm, ⟨37, _⟩ => ⟨S_, .f32⟩
  | .hbm, ⟨38, _⟩ => ⟨S1024x1024, .i1⟩
  | .hbm, ⟨39, _⟩ => ⟨S1024x1024, .f32⟩
  | .hbm, ⟨40, _⟩ => ⟨S1024x1024, .f32⟩
  | .hbm, ⟨41, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | _, _ => ⟨S1024, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_2 : Ref sig .tc := ⟨.hbm, 12, rfl⟩
abbrev main_v8 : Ref sig .tc := ⟨.hbm, 13, rfl⟩
abbrev main_v9 : Ref sig .tc := ⟨.hbm, 14, rfl⟩
abbrev main_c_3 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_4 : Ref sig .tc := ⟨.hbm, 19, rfl⟩
abbrev main_c_5 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v13 : Ref sig .tc := ⟨.hbm, 26, rfl⟩
abbrev main_v14 : Ref sig .tc := ⟨.hbm, 27, rfl⟩
abbrev main_c_6 : Ref sig .tc := ⟨.hbm, 28, rfl⟩
abbrev main_v15 : Ref sig .tc := ⟨.hbm, 29, rfl⟩
abbrev main_v16 : Ref sig .tc := ⟨.hbm, 30, rfl⟩
abbrev main_c_7 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst : Ref sig .tc := ⟨.hbm, 37, rfl⟩
abbrev main_call1_v0 : Ref sig .tc := ⟨.hbm, 38, rfl⟩
abbrev main_call1_v1 : Ref sig .tc := ⟨.hbm, 39, rfl⟩
abbrev main_v22 : Ref sig .tc := ⟨.hbm, 40, rfl⟩
abbrev main_v23 : Ref sig .tc := ⟨.hbm, 41, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_4 : BitVec 32 := 16#32
  let v11 : BitVec 32 := Scalar.muli v9 c16_i32_4
  let v12 : BitVec 32 := Scalar.addi c0_i32 v11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_dev2 (d0 : Dev nD) : Nat :=
  let c0_i32_9 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_8 : BitVec 32 := 16#32
  let v17 : BitVec 32 := Scalar.muli v9 c16_i32_8
  let v18 : BitVec 32 := Scalar.addi c0_i32_9 v17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_10 : BitVec 32 := 4#32
  let v19 : BitVec 32 := Scalar.muli v5 c4_i32_10
  let v20 : BitVec 32 := Scalar.addi v18 v19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_11 : BitVec 32 := 1#32
  let v21 : BitVec 32 := Scalar.muli v8 c1_i32_11
  let v22 : BitVec 32 := Scalar.addi v20 v21
  v22.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024 : Shape := ⟨1, ![1024]⟩
abbrev S16384x1024 : Shape := ⟨2, ![16384, 1024]⟩
abbrev S_ : Shape := ⟨0, ![]⟩
abbrev S1024x1 : Shape := ⟨2, ![1024, 1]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024, .i32⟩
  | .hbm, ⟨1, _⟩ => ⟨S16384x1024, .f32⟩
  | .hbm, ⟨2, _⟩ => ⟨S_, .i32⟩
  | .hbm, ⟨3, _⟩ => ⟨S1024, .i32⟩
  | .hbm, ⟨4, _⟩ => ⟨S1024, .i1⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S1024, .i32⟩
  | .hbm, ⟨9, _⟩ => ⟨S1024x1, .i32⟩
  | .hbm, ⟨10, _⟩ => ⟨S1024x1024, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.KernelIdeal.Pairs.lean ====
/- The pairing of the devices and the schedule of the exchange.

   Device `c` exchanges its whole partial table with the one device that differs from it in the first mesh
   coordinate. Three counters of each device take part, each used for one round:
   * the barrier counter, raised by the partner: it hands over the partner's landing buffer;
   * the send counter, raised when the own table has been read: it gives the own table back;
   * the receive counter, raised when the partner's table has landed: it gives the landing buffer back,
     holding the partner's table.
   The schedule is stated over an arbitrary family `part` of tables, one per device. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Rounds
public import Idealize.ShloMosaic.Lib.Tactic

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- Two copies of the rounds algebra: the pipeline's, and the exchange's. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev EX : Emb (UR sig nD τ) (MT nD τ sig Unit (Elt F) ℕ UU ℕ) := embR

/-- The contents of one whole table. -/
abbrev Tbl (F : FTy → Type) : Type := (⟨S1024x1024, .f32⟩ : BufTy).Contents (Elt F)

/-! ## The partner -/

/-- The device across the first mesh axis: sixteen further, round the 32. -/
def mate (c : Dev nD) : Dev nD := ⟨(c.val + 16) % 32, Nat.mod_lt _ (by decide)⟩

theorem mate_mate (c : Dev nD) : mate (mate c) = c := by revert c; decide

/-- The devices permuted by `mate`. -/
def across : Dev nD ≃ Dev nD := ⟨mate, mate, mate_mate, mate_mate⟩

/-- The device the body signals is the partner. -/
theorem dev1_mate (c : Dev nD) : (⟨k0_dev1 c, k0_dev1_lt c⟩ : Dev nD) = mate c :=
  Fin.ext ((k0_dev1_eq c).trans (by revert c; decide))
/-- The device the body copies to is the partner. -/
theorem dev2_mate (c : Dev nD) : (⟨k0_dev2 c, k0_dev2_lt c⟩ : Dev nD) = mate c :=
  Fin.ext ((k0_dev2_eq c).trans (by revert c; decide))

/-! ## Buffers and counters -/

/-- The staging buffer of the partial table, that of the result, and the landing buffer. -/
abbrev inM : Memref sig .tc .vmem S1024x1024 .f32 := Memref.whole cc0_stg0_0
abbrev outM : Memref sig .tc .vmem S1024x1024 .f32 := Memref.whole cc0_stg1_0
abbrev landM : Memref sig .tc .vmem S1024x1024 .f32 := Memref.whole cc0_scratch0

abbrev barS : Sem sig := (SemArray.scalar (sig.barrier 0 rfl) : Sems sig S_).sem
abbrev sendS : DmaSem sig := cc0_scratch1.sem
abbrev recvS : DmaSem sig := cc0_scratch2.sem

abbrev barCell (c : Dev nD) : GSem nD τ sig := ((c : Thread nD τ), .reg barS)
abbrev sendCell (c : Dev nD) : GSem nD τ sig := ((c : Thread nD τ), .dma sendS)
abbrev recvCell (c : Dev nD) : GSem nD τ sig := ((c : Thread nD τ), .dma recvS)

/-- What a whole table's copy adds to a counter. -/
@[irreducible] def N : ℕ := (landM : Memref sig .tc .vmem S1024x1024 .f32).view.dmaCredit
theorem N_def : (landM : Memref sig .tc .vmem S1024x1024 .f32).view.dmaCredit = N := by unfold N; rfl
theorem N_pos : 0 < N := by rw [← N_def]; exact View.dmaCredit_pos _ (by decide)

theorem send_ne_bar : (SemLoc.dma sendS : SemLoc sig) ≠ .reg barS := fun h => by cases h
theorem recv_ne_bar : (SemLoc.dma recvS : SemLoc sig) ≠ .reg barS := fun h => by cases h
theorem send_ne_recv : (SemLoc.dma sendS : SemLoc sig) ≠ .dma recvS := by decide

/-- Device `c`'s landing buffer, whole, at `f`. -/
def landPts (c : Dev nD) (f : Tbl F) : sProp 𝕄 :=
  (landM : Memref sig .tc .vmem S1024x1024 .f32).view.loc (c : Thread nD τ) ↦[(landM : Memref sig .tc .vmem S1024x1024 .f32).view.set]{fullShare} f
/-- Device `c`'s staging buffer of its partial table, whole, at `f`. -/
def inPts (c : Dev nD) (f : Tbl F) : sProp 𝕄 :=
  (inM : Memref sig .tc .vmem S1024x1024 .f32).view.loc (c : Thread nD τ) ↦[(inM : Memref sig .tc .vmem S1024x1024 .f32).view.set]{fullShare} f

instance landPts_storable (c : Dev nD) (f : Tbl F) : BI.Storable (upEmb : UEmb _ 𝕄) (landPts c f) := by unfold landPts; infer_instance
instance inPts_storable (c : Dev nD) (f : Tbl F) : BI.Storable (upEmb : UEmb _ 𝕄) (inPts c f) := by unfold inPts; infer_instance

theorem land_set : (landM : Memref sig .tc .vmem S1024x1024 .f32).view.set = Finset.univ := View.set_whole _
theorem landPts_eq (c : Dev nD) (f : Tbl F) :
    landPts c f = (((c : Thread nD τ).loc cc0_scratch0) ↦{fullShare} f : sProp 𝕄) := by unfold landPts; rw [land_set]
theorem inPts_eq (c : Dev nD) (f : Tbl F) :
    inPts c f = (((c : Thread nD τ).loc cc0_stg0_0) ↦{fullShare} f : sProp 𝕄) := by unfold inPts; rw [View.set_whole]

/-- A landing buffer overwritten by a whole table holds that table. -/
theorem landed_eq (fd fs : Tbl F) :
    (landM : Memref sig .tc .vmem S1024x1024 .f32).view.write (Elt F) fd ((inM : Memref sig .tc .vmem S1024x1024 .f32).view.read (Elt F) fs) Finset.univ = fs := by
  show (View.whole cc0_scratch0).write (Elt F) fd ((View.whole cc0_stg0_0).read (Elt F) fs) Finset.univ = fs
  rw [View.read_whole]; exact View.write_whole_univ _ _ _

/-! ## The schedule -/

variable (part : Dev nD → Tbl F)

/-- What the partner's signal hands device `c`: the partner's landing buffer, and that the partner's receive
    counter has entered its round. -/
def barPay (c : Dev nD) : sProp 𝕄 := iprop((∃ f, landPts (mate c) f) ∗ reached EX (recvCell (mate c)) 0)
/-- What the landing hands device `c`: its landing buffer, holding the partner's table. -/
def recvPay (c : Dev nD) : sProp 𝕄 := landPts c (part (mate c))
/-- What the end of the sending gives back: the table sent. -/
def sendPay (c : Dev nD) : sProp 𝕄 := inPts c (part c)

/-- The counters of the exchange. -/
abbrev IsOurs (g : GSem nD τ sig) : Prop := g.1.2 = .tc ∧ (g.2 = .reg barS ∨ g.2 = .dma sendS ∨ g.2 = .dma recvS)

/-- One round with one duty on each counter of the exchange. -/
def sched : Rounds.Schedule (GSem nD τ sig) Unit 𝕄 where
  duties g r := if r = 0 ∧ IsOurs g then {()} else ∅
  unitless _ := False
  amount g _ _ := if g.2 = .reg barS then 1 else N
  payload g _ _ :=
    if g.2 = .reg barS then barPay g.1.1
    else if g.2 = .dma recvS then recvPay part g.1.1
    else if g.2 = .dma sendS then sendPay part g.1.1
    else iprop(emp)
  amount_pos g _ _ _ := by
    by_cases h : g.2 = .reg barS
    · rw [if_pos h]; exact Nat.one_pos
    · rw [if_neg h]; exact N_pos

instance sched_storable (g : GSem nD τ sig) (r : ℕ) (d : Unit) : BI.Storable (upEmb : UEmb _ 𝕄) ((sched part).payload g r d) := by
  show BI.Storable upEmb (if g.2 = .reg barS then barPay g.1.1 else if g.2 = .dma recvS then recvPay part g.1.1
    else if g.2 = .dma sendS then sendPay part g.1.1 else iprop(emp))
  unfold barPay recvPay sendPay
  (repeat' split) <;> infer_instance

section Tables
variable (c : Dev nD)

theorem duties_bar : (sched part).duties (barCell c) 0 = {()} := by dsimp only [sched]; exact if_pos ⟨rfl, rfl, .inl rfl⟩
theorem duties_send : (sched part).duties (sendCell c) 0 = {()} := by dsimp only [sched]; exact if_pos ⟨rfl, rfl, .inr (.inl rfl)⟩
theorem duties_recv : (sched part).duties (recvCell c) 0 = {()} := by dsimp only [sched]; exact if_pos ⟨rfl, rfl, .inr (.inr rfl)⟩
theorem duties_later (g : GSem nD τ sig) : ∀ r, 0 + 1 ≤ r → (sched part).duties g r = ∅ :=
  fun r hr => by dsimp only [sched]; exact if_neg fun h => by omega

theorem amount_bar (u : Unit) : (sched part).amount (barCell c) 0 u = 1 := by dsimp only [sched]; exact if_pos rfl
theorem amount_send (u : Unit) : (sched part).amount (sendCell c) 0 u = N := by dsimp only [sched]; exact if_neg send_ne_bar
theorem amount_recv (u : Unit) : (sched part).amount (recvCell c) 0 u = N := by dsimp only [sched]; exact if_neg recv_ne_bar

theorem expect_bar : (sched part).expect (barCell c) 0 = 1 := by
  rw [Schedule.expect, Schedule.amountOf, duties_bar, Finset.sum_singleton, amount_bar]
theorem expect_send : (sched part).expect (sendCell c) 0 = N := by
  rw [Schedule.expect, Schedule.amountOf, duties_send, Finset.sum_singleton, amount_send]
theorem expect_recv : (sched part).expect (recvCell c) 0 = N := by
  rw [Schedule.expect, Schedule.amountOf, duties_recv, Finset.sum_singleton, amount_recv]

theorem payload_bar (u : Unit) : (sched part).payload (barCell c) 0 u = barPay c := by dsimp only [sched]; exact if_pos rfl
theorem payload_send (u : Unit) : (sched part).payload (sendCell c) 0 u = sendPay part c := by
  dsimp only [sched]; rw [if_neg send_ne_bar, if_neg send_ne_recv, if_pos rfl]
theorem payload_recv (u : Unit) : (sched part).payload (recvCell c) 0 u = recvPay part c := by
  dsimp only [sched]; rw [if_neg recv_ne_bar, if_pos rfl]

theorem rest_bar : bigSep ((sched part).duties (barCell c) 0 \ ∅) (fun u => (sched part).payload (barCell c) 0 u) = barPay c := by
  rw [Finset.sdiff_empty, duties_bar, bigSep_singleton, payload_bar]
theorem rest_send : bigSep ((sched part).duties (sendCell c) 0 \ ∅) (fun u => (sched part).payload (sendCell c) 0 u) = inPts c (part c) := by
  rw [Finset.sdiff_empty, duties_send, bigSep_singleton, payload_send]; rfl
theorem rest_recv : bigSep ((sched part).duties (recvCell c) 0 \ ∅) (fun u => (sched part).payload (recvCell c) 0 u) = landPts c (part (mate c)) := by
  rw [Finset.sdiff_empty, duties_recv, bigSep_singleton, payload_recv]; rfl

end Tables

/-! ## What each device owes, and the order of the waits -/

/-- Device `c` owes its partner's receive counter one table and its partner's barrier counter one unit. -/
def due (c : Dev nD) : CellTallies nD τ sig Unit := tallyAt (recvCell (mate c)) () N + tallyAt (barCell (mate c)) () 1

def L (g : GSem nD τ sig) : Finset Unit := if g.1.2 = .tc then {()} else ∅
/-- Barrier counters stand at 1, receive counters at 2, every other counter at 0. -/
def lv (g : GSem nD τ sig) (_ : Unit) : ℕ := if g.2 = .reg barS then 1 else if g.2 = .dma recvS then 2 else 0

theorem L_of_ne (g : GSem nD τ sig) (h : g.1.2 ≠ .tc) : L g = ∅ := if_neg h
theorem mem_L (c : Dev nD) (sm : SemLoc sig) : () ∈ L ((c : Thread nD τ), sm) := by
  unfold L; rw [if_pos rfl]; exact Finset.mem_singleton_self _

theorem lv_bar (c : Dev nD) : lv (barCell c) () = 1 := by dsimp only [lv]; rw [if_pos rfl]
theorem lv_recv (c : Dev nD) : lv (recvCell c) () = 2 := by dsimp only [lv]; rw [if_neg recv_ne_bar, if_pos rfl]

theorem due_pos {c : Dev nD} {g : GSem nD τ sig} {u : Unit} (h : 0 < due c g u) : g = recvCell (mate c) ∨ g = barCell (mate c) := by
  unfold due at h
  rw [Pi.add_apply, Finsupp.add_apply, tallyAt_apply, tallyAt_apply] at h
  by_contra hn; rw [not_or] at hn
  rw [if_neg (fun h' => hn.1 h'.1), if_neg (fun h' => hn.2 h'.1)] at h
  exact Nat.lt_irrefl 0 h

/-- A device may wait on its barrier counter while it still owes its partner the table. -/
theorem mayWait_bar (c : Dev nD) : (levAts L lv : sProp 𝕄) ⊢ MayWait (c : Thread nD τ) (.reg barS) () (tallyAt (recvCell (mate c)) () N) := by
  have hg {g : GSem nD τ sig} {u : Unit} (h : 0 < (tallyAt (recvCell (mate c)) () N : CellTallies nD τ sig Unit) g u) : g = recvCell (mate c) := by
    rw [tallyAt_apply] at h
    by_contra hn
    rw [if_neg (fun h' => hn h'.1)] at h
    exact Nat.lt_irrefl 0 h
  exact MayOwe.of_cut (L := L) (lev := lv) 1
    (fun p hp => by rw [Finset.mem_singleton.mp hp]; exact mem_L c _)
    (fun g u h => by obtain rfl := hg h; exact mem_L _ _)
    (fun p hp => by rw [Finset.mem_singleton.mp hp]; exact (lv_bar c).le)
    (fun g u h => by obtain rfl := hg h; rw [lv_recv]; decide)

end Cert.KernelIdeal.Exchange

end
-- ==== Proof.KernelIdeal.Exchange.lean ====
/- The exchange at one device.

   Device `c` raises its partner's barrier counter, waits for its own, copies its table into the partner's
   landing buffer, waits until its own table has been read and the partner's has landed, and stores the sum of
   the two tables. The proof is carried out once, at a device named by a variable. -/
module

public import proofs.«01_k».proof.Proof.KernelIdeal.Pairs

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (part : Dev nD → Tbl F)

/-- What device `c` stores: its own table plus the partner's. -/
def total (c : Dev nD) : Tbl F := k0_pay1 (part c) (part (mate c))

abbrev 𝒱₀ : Variants := Variants.none

/-! ## What a device knows and holds -/

/-- The counters device `c` touches, each under its invariant: its own three, and the two of its partner that
    it raises. `K` names the invariants. -/
def known (K : GSem nD τ sig → ℕ) (c : Dev nD) : sProp 𝕄 :=
  iprop(cellInv EX (sched part) (K (barCell c)) (barCell c) ∗ cellInv EX (sched part) (K (sendCell c)) (sendCell c)
    ∗ cellInv EX (sched part) (K (recvCell c)) (recvCell c)
    ∗ cellInv EX (sched part) (K (barCell (mate c))) (barCell (mate c))
    ∗ cellInv EX (sched part) (K (recvCell (mate c))) (recvCell (mate c)))

instance known_persistent (K : GSem nD τ sig → ℕ) (c : Dev nD) : BI.Persistent (known part K c) := by unfold known; infer_instance

/-- The tokens device `c` pays with: its partner's barrier and receive counters, its own send counter. -/
def tokens (c : Dev nD) : sProp 𝕄 :=
  iprop(dutyTok EX (barCell (mate c)) 0 () ∗ dutyTok EX (recvCell (mate c)) 0 () ∗ dutyTok EX (sendCell c) 0 ())

/-- The credit device `c` waits with. -/
def credits (c : Dev nD) : sProp 𝕄 := iprop(cred (tallyAt (barCell c) () 1) ∗ cred (tallyAt (recvCell c) () N))

/-- Device `c` at the start of the kernel: at the first round of its three counters, nothing yet taken. -/
def started (K : GSem nD τ sig → ℕ) (c : Dev nD) : sProp 𝕄 :=
  iprop(known part K c
    ∗ (atPos EX (barCell c) 0 ∅ 0 ∗ atPos EX (sendCell c) 0 ∅ 0 ∗ atPos EX (recvCell c) 0 ∅ 0)
    ∗ (reached EX (barCell (mate c)) 0 ∗ reached EX (sendCell c) 0 ∗ reached EX (recvCell c) 0)
    ∗ tokens c)

/-- Device `c`'s three counters, back at zero. -/
def rested (c : Dev nD) : sProp 𝕄 := iprop(semVal (barCell c) 0 ∗ semVal (sendCell c) 0 ∗ semVal (recvCell c) 0)

/-- Device `c`'s result buffer, whole, at `f`. -/
def outPts (c : Dev nD) (f : Tbl F) : sProp 𝕄 := (((c : Thread nD τ).loc cc0_stg1_0) ↦{fullShare} f : sProp 𝕄)

/-- Before: the ghost state and credit, the landing and result buffers at any contents, the own table staged,
    and the two debts. -/
def before (K : GSem nD τ sig → ℕ) (c : Dev nD) (W : Waits sig Unit) : sProp 𝕄 :=
  iprop(started part K c ∗ credits c ∗ levAts L lv
    ∗ (∃ f, landPts c f) ∗ inPts c (part c) ∗ (∃ f, outPts c f) ∗ owes (c : Thread nD τ) (due c) W)

/-- After: the counters at zero, the own table still staged, the sum stored, nothing owed. -/
def after (c : Dev nD) : sProp 𝕄 :=
  iprop(rested c ∗ (∃ f, landPts c f) ∗ inPts c (part c) ∗ outPts c (total part c)
    ∗ ∃ W, owes (c : Thread nD τ) (0 : CellTallies nD τ sig Unit) W)

/-! ## Single steps -/

theorem in_credit : (inM : Memref sig .tc .vmem S1024x1024 .f32).view.dmaCredit = N := by unfold N; rfl

theorem land_amount : (landM : Memref sig .tc .vmem S1024x1024 .f32).view.amount (.dma recvS) = N := N_def

/-- The wait for the own table to have been read takes one table's credit. -/
theorem wait_send (c : Dev nD) (h h') (Q : PUnit → sProp 𝕄) :
    wpE (defs₀ (F := F)) 𝒱₀ (c : Thread nD τ) none Set.univ (.waitDma2 sendS landM inM h h') Q
      = waitSpec (c : Thread nD τ) Set.univ (.dma sendS) N Q := by rw [← in_credit]; rfl
/-- So does the wait for the partner's table. -/
theorem wait_recv (c : Dev nD) (h h') (Q : PUnit → sProp 𝕄) :
    wpE (defs₀ (F := F)) 𝒱₀ (c : Thread nD τ) none Set.univ (.waitDma2 recvS inM landM h h') Q
      = waitSpec (c : Thread nD τ) Set.univ (.dma recvS) N Q := by rw [← N_def]; rfl

/-- A counter whose only round is over gives its value back, zero. -/
theorem close (κ : ℕ) (g : GSem nD τ sig) :
    iprop(cellInv EX (sched part) κ g ∗ atPos EX g (0 + 1) ∅ 0) ⊢ (|={Set.univ}=> semVal g 0 : sProp 𝕄) :=
  Rounds.cell_close EX (sched part) (Set.mem_univ κ) id (duties_later part g)

/-- The copy of the own table into the partner's landing buffer. -/
theorem copy_over (K : GSem nD τ sig → ℕ) (c n : Dev nD) (hn : n = mate c)
    {hsc : (landM : Memref sig (Dev.tc n : Thread nD τ).2.kind .vmem S1024x1024 .f32).view.ref.isScScratch = false}
    {hsrc : (inM : Memref sig .tc .vmem S1024x1024 .f32).view.WordExact} {hdst : (landM : Memref sig .tc .vmem S1024x1024 .f32).view.WordExact}
    {hsem : DmaTarget.Typed .vmem (.dma recvS) (.remote (Dev.tc n : Thread nD τ) (landM : Memref sig .tc .vmem S1024x1024 .f32) (.dma sendS) hsc)}
    {α : Type} {Q : α → sProp 𝕄} {k : PUnit → Prog (TpuEff nD τ sig (Elt F) Λ₀ .tc) α}
    (f : Tbl F) (W : Waits sig Unit) :
    iprop(cellInv EX (sched part) (K (sendCell c)) (sendCell c) ∗ cellInv EX (sched part) (K (recvCell (mate c))) (recvCell (mate c))
        ∗ inPts c (part c) ∗ landPts (mate c) f ∗ owes (c : Thread nD τ) (tallyAt (recvCell (mate c)) () N) W
        ∗ dutyTok EX (sendCell c) 0 () ∗ reached EX (sendCell c) 0
        ∗ dutyTok EX (recvCell (mate c)) 0 () ∗ reached EX (recvCell (mate c)) 0)
      ⊢ iprop(((cred (tallyAt (sendCell c) () N) ∗ owes (c : Thread nD τ) 0 W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma inM (.remote (Dev.tc n : Thread nD τ) landM (.dma sendS) hsc) (.dma recvS) hsrc hdst hsem) k) Q) := by
  subst hn
  unfold inPts landPts
  exact Rounds.wp_send_pointsTo 𝒱₀ EX (sched part) (c : Thread nD τ) none (c' := (mate c : Thread nD τ)) (src := inM) (dst := landM)
    (sS := .dma sendS) (sem := .dma recvS) (q := fullShare) (fs := part c) (κ₁ := K (sendCell c)) (κ₂ := K (recvCell (mate c)))
    (r₁ := 0) (r₂ := 0) (d₁ := ()) (d₂ := ()) (fd := f)
    (by rw [duties_send]; exact Finset.mem_singleton_self _) (by rw [duties_recv]; exact Finset.mem_singleton_self _)
    () () N land_amount (amount_send part c ()) (amount_recv part (mate c) ()) 0 (by rw [zero_add]) (W := W)
    (by rw [payload_send]; exact BI.Entails.refl _)
    (by rw [payload_recv]; unfold recvPay landPts; rw [landed_eq, mate_mate])

/-! ## Loads and the store -/

abbrev whole : Rect S1024x1024 := Rect.unit (s := S1024x1024) ![0, 0] S1024x1024.size inb_S1024x1024_S1024x1024_0_0

theorem corner : (![0, 0] : Fin 2 → Nat) = fun _ => 0 := funext fun a => by fin_cases a <;> rfl

omit [FloatOps F] in
theorem load_in (f : Tbl F) : (inM : Memref sig .tc .vmem S1024x1024 .f32).view.readAt (Elt F) whole.toLoadRect f = f :=
  Memref.readAt_unit_zero (Elt F) cc0_stg0_0 corner _ f
omit [FloatOps F] in
theorem load_land (f : Tbl F) : (landM : Memref sig .tc .vmem S1024x1024 .f32).view.readAt (Elt F) whole.toLoadRect f = f :=
  Memref.readAt_unit_zero (Elt F) cc0_scratch0 corner _ f
omit [FloatOps F] in
theorem store_out (f w : Tbl F) :
    ((outM : Memref sig .tc .vmem S1024x1024 .f32).access whole : View sig .tc _ _ _).write (Elt F) f w Finset.univ = w :=
  Memref.write_access_unit_zero_univ (Elt F) cc0_stg1_0 corner _ f w

/-! ## The whole body -/

abbrev body0 : Prog (TpuEff nD τ sig (Elt F) Λ₀ .tc) PUnit :=
  cc0_body inM (Memref.isWhole_whole _) outM (Memref.isWhole_whole _) landM (Memref.isWhole_whole _) cc0_scratch1 cc0_scratch2

set_option maxHeartbeats 800000 in
theorem exchange (K : GSem nD τ sig → ℕ) (c : Dev nD) (W : Waits sig Unit) (Q : PUnit → sProp 𝕄) :
    iprop(before part K c W ∗ (after part c -∗ Q ⟨⟩))
      ⊢ wp frame (wpE (defs₀ (F := F)) 𝒱₀ c none) Set.univ (body0 (F := F)) Q := by
  simp only [body0, cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold before started known tokens credits
  iintro ⟨⟨⟨⟨#Ibar, #Isend, #Irecv, #Ibar', #Irecv'⟩, ⟨Abar, Asend, Arecv⟩, ⟨#Rbar', #Rsend, #Rrecv⟩, ⟨Tbar', Trecv', Tsend⟩⟩,
    ⟨Cbar, Crecv⟩, #Hlev, ⟨%f0, Hland⟩, Hin, ⟨%g0, Hout⟩, HO⟩, Hk⟩
  -- the partner's barrier counter is raised: the own landing buffer goes with it
  simp only [dev1_mate c]
  iapply (Rounds.wp_signal 𝒱₀ EX (sched part) (c : Thread nD τ) none (dst := (mate c : Thread nD τ)) (sem := barS) (r := 0) (d := ())
      (κ := K (barCell (mate c)))
      (by rw [duties_bar]; exact Finset.mem_singleton_self _) ((amount_bar part (mate c) ()).trans (by decide)) ()
      (tallyAt (recvCell (mate c)) () N) rfl)
    $$ [HO Tbar' Hland]
  · isplitr; · iexact Ibar'
    isplitl [HO]; · iexact HO
    isplitl [Tbar']; · iexact Tbar'
    isplitl [Hland]
    · rw [payload_bar]; unfold barPay; rw [mate_mate]
      isplitl [Hland]; · iexists f0; iexact Hland
      iexact Rrecv
    · iexact Rbar'
  iintro HO
  -- the own barrier counter: the partner's landing buffer comes with it
  iapply (Rounds.wp_wait_rest_token 𝒱₀ EX (sched part) (c : Thread nD τ) none (κ := K (barCell c))
      (wpE_semWait_eq 𝒱₀ (c : Thread nD τ) none Set.univ) (Set.mem_univ _) () (O := tallyAt (recvCell (mate c)) () N) (W := W)
      (R := 0) (m := 0) (T := ∅) (by rw [expect_bar]; decide)) $$ [Cbar HO Abar]
  · isplitr; · iexact Ibar
    isplitl [Cbar]; · iexact Cbar
    isplitl [HO]; · iexact HO
    isplitr; · iapply (mayWait_bar c); iexact Hlev
    iexact Abar
  iintro ⟨HO, Abar, -, Hpay⟩
  ihave Hp := (Entails.of_eq (rest_bar part c)) $$ Hpay
  unfold barPay
  icases Hp with ⟨⟨%f1, Hland'⟩, #Rrecv'⟩
  -- the copy
  iapply (copy_over part K c _ (dev2_mate c) f1 (insert (SemLoc.reg barS, ()) W)) $$ [Hin Hland' HO Tsend Trecv']
  · isplitr; · iexact Isend
    isplitr; · iexact Irecv'
    isplitl [Hin]; · iexact Hin
    isplitl [Hland']; · iexact Hland'
    isplitl [HO]; · iexact HO
    isplitl [Tsend]; · iexact Tsend
    isplitr; · iexact Rsend
    isplitl [Trecv']; · iexact Trecv'
    iexact Rrecv'
  iintro ⟨Csend, HO⟩
  -- the own table has been read
  iapply (Rounds.wp_wait_rest_token 𝒱₀ EX (sched part) (c : Thread nD τ) none (κ := K (sendCell c)) (k' := N)
      (wait_send c _ _) (Set.mem_univ _) () (O := 0) (W := insert (SemLoc.reg barS, ()) W) (R := 0) (m := 0) (T := ∅)
      ((Nat.zero_add _).trans (expect_send part c).symm)) $$ [Csend HO Asend]
  · isplitr; · iexact Isend
    isplitl [Csend]; · iexact Csend
    isplitl [HO]; · iexact HO
    isplitr; · rw [MayWait_zero]; iempintro
    iexact Asend
  iintro ⟨HO, Asend, -, Hpay⟩
  ihave Hin := (Entails.of_eq ((rest_send part c).trans (inPts_eq c _))) $$ Hpay
  -- the partner's table has landed
  iapply (Rounds.wp_wait_rest_token 𝒱₀ EX (sched part) (c : Thread nD τ) none (κ := K (recvCell c)) (k' := N)
      (wait_recv c _ _) (Set.mem_univ _) () (O := 0)
      (W := insert (SemLoc.dma sendS, ()) (insert (SemLoc.reg barS, ()) W)) (R := 0) (m := 0) (T := ∅)
      ((Nat.zero_add _).trans (expect_recv part c).symm)) $$ [Crecv HO Arecv]
  · isplitr; · iexact Irecv
    isplitl [Crecv]; · iexact Crecv
    isplitl [HO]; · iexact HO
    isplitr; · rw [MayWait_zero]; iempintro
    iexact Arecv
  iintro ⟨HO, Arecv, -, Hpay⟩
  ihave Hland := (Entails.of_eq ((rest_recv part c).trans (landPts_eq c _))) $$ Hpay
  imod (close part (K (barCell c)) (barCell c)) $$ [Abar] with Zbar
  · isplitr; · iexact Ibar
    iexact Abar
  imod (close part (K (sendCell c)) (sendCell c)) $$ [Asend] with Zsend
  · isplitr; · iexact Isend
    iexact Asend
  imod (close part (K (recvCell c)) (recvCell c)) $$ [Arecv] with Zrecv
  · isplitr; · iexact Irecv
    iexact Arecv
  -- both tables are read and their sum stored
  unfold outPts
  iapply (wp_load 𝒱₀ (c : Thread nD τ) none Set.univ (m := inM) (Finset.subset_univ _)) $$ Hin; iintro Hin
  rw [load_in]
  iapply (wp_load 𝒱₀ (c : Thread nD τ) none Set.univ (m := landM) (Finset.subset_univ _)) $$ Hland; iintro Hland
  rw [load_land]
  iapply (wp_load 𝒱₀ (c : Thread nD τ) none Set.univ (m := outM) (Finset.subset_univ _)) $$ Hout; iintro Hout
  iapply (wp_store 𝒱₀ (c : Thread nD τ) none Set.univ (m := outM) (r := whole) (Mk := Finset.univ) (Finset.subset_univ _)) $$ Hout; iintro Hout
  rw [store_out, wp_ret]; imodintro
  iapply Hk
  unfold after rested outPts total
  isplitl [Zbar Zsend Zrecv]
  · isplitl [Zbar]; · iexact Zbar
    isplitl [Zsend] <;> iassumption
  isplitl [Hland]
  · iexists (part (mate c)); rw [landPts_eq]; iexact Hland
  isplitl [Hin]
  · rw [inPts_eq]; iexact Hin
  isplitl [Hout]; · iexact Hout
  iexists _; iexact HO

end Cert.KernelIdeal.Exchange

end
-- ==== Proof.KernelIdeal.Region.lean ====
/- The kernel as one step of the program.

   The kernel runs once, on whole buffers: its operand is staged, the body runs, its result is written back.
   Stated over an arbitrary family `W` of buffer contents at the kernel's entry. -/
module

public import proofs.«01_k».proof.Proof.KernelIdeal.Exchange
public import Idealize.ShloMosaic.Lib.Pipeline.RegionTalk
public import Idealize.ShloMosaic.Lib.Pipeline.ValueKit

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (W : Dev nD → Valuation τ sig (Elt F))

/-- The table each device brings to the kernel. -/
def entry (c : Dev nD) : Tbl F := W c (Proc.devRef .tc main_v22)

/-- The buffers after the kernel: the result holds the sum, every other buffer what it held. -/
def leave (c : Dev nD) : Valuation τ sig (Elt F) :=
  Function.update (W c) (Proc.devRef .tc main_v23) (total (entry W) c)

/-! ## The kernel's one point -/

/-- Before the point: everything the exchange starts from but the staged buffers and the debts. -/
def ready (c : Dev nD) : sProp 𝕄 :=
  iprop((∃ K, started (entry W) K c) ∗ credits c ∗ levAts L lv ∗ (∃ f, landPts c f) ∗ ∃ r, prngReg c r)
/-- After the point. -/
def over (c : Dev nD) : sProp 𝕄 := iprop(rested c ∗ (∃ f, landPts c f) ∗ ∃ r, prngReg c r)

/-- What the windows hold and what is owed, before and after the point. -/
def dat (c : Dev nD) : Dat τ (Elt F) Unit ℕ UU ℕ cfg0 c where
  A w := W c (Proc.devRef .tc (Pipeline.arrRef spec0 w))
  after w _ := match w with
    | ⟨0, _⟩ => entry W c
    | ⟨1, _⟩ => total (entry W) c
  Φ t := if t.val = 0 then ready W c else over c
  q _ := fullShare
  owed t := if t.val = 0 then due c else 0

abbrev dats : (p : Fin 1) → (c : Dev nD) → Dat τ (Elt F) Unit ℕ UU ℕ (cfgs p) c := fun _ => dat W

theorem owed_first (c : Dev nD) : (dat W c).owed t0_0.castSucc = due c := by
  show (if (t0_0.castSucc : Fin (cfg0.N + 1)).val = 0 then due c else 0) = due c; exact if_pos rfl
theorem owed_last (c : Dev nD) : (dat W c).owed t0_0.succ = 0 := by
  show (if (t0_0.succ : Fin (cfg0.N + 1)).val = 0 then due c else 0) = 0; exact if_neg (Nat.succ_ne_zero _)
theorem Φ_first (c : Dev nD) : (dat W c).Φ t0_0.castSucc = ready W c := by
  show (if (t0_0.castSucc : Fin (cfg0.N + 1)).val = 0 then ready W c else over c) = ready W c; exact if_pos rfl
theorem Φ_last (c : Dev nD) : (dat W c).Φ t0_0.succ = over c := by
  show (if (t0_0.succ : Fin (cfg0.N + 1)).val = 0 then ready W c else over c) = over c; exact if_neg (Nat.succ_ne_zero _)

/-- The operand's one block is the whole operand. -/
theorem staged (c : Dev nD) (d) : (dat W c).before (0 : Fin 2) t0_0 d = entry W c := by
  unfold Dat.before
  rw [if_pos (fetch0_0 t0_0)]
  show (win0_0.blk t0_0).view.read (Elt F) (entry W c) = entry W c
  funext i
  refine congrArg (entry W c) ?_
  funext a; apply Fin.ext
  exact Pipeline.Window.rect_emb_val_of_index_zero win0_0 t0_0 a rfl i

/-- The result's one block is the whole result: it ends as the body left it. -/
theorem written (c : Dev nD) : (dat W c).arrAt (1 : Fin 2) cfg0.N = total (entry W) c :=
  Pipeline.Dat.arrAt_eq_of_after_last (dat W c) (1 : Fin 2) t0_0 (by decide +kernel) _ fun _ => rfl

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

theorem owesAt_intro (c : Dev nD) (t : Fin (cfg0.N + 1)) (O : CellTallies nD τ sig Unit) (h : (dat W c).owed t = O) (Wt : Waits sig Unit) :
    (owes (c : Thread nD τ) O Wt : sProp 𝕄) ⊢ ((dat W c).owesAt () t : sProp 𝕄) := by
  unfold Dat.owesAt Pipeline.owesWithin; rw [h]
  iintro HO; iexists Wt
  isplitr; · ipureintro; exact fun _ _ => Or.inl trivial
  iexact HO
theorem owesAt_elim (c : Dev nD) (t : Fin (cfg0.N + 1)) (O : CellTallies nD τ sig Unit) (h : (dat W c).owed t = O) :
    ((dat W c).owesAt () t : sProp 𝕄) ⊢ iprop(∃ Wt, owes (c : Thread nD τ) O Wt) := by
  unfold Dat.owesAt Pipeline.owesWithin; rw [h]
  iintro ⟨%Wt, -, HO⟩; iexists Wt; iexact HO

/-- A staging buffer at contents `X`, as the pipeline states it. -/
abbrev holding (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def pointPre (c : Dev nD) : sProp 𝕄 :=
  iprop(ready W c ∗ (dat W c).owesAt () t0_0.castSucc
    ∗ (∃ d, holding c cc0_stg0_0 ((dat W c).before (0 : Fin 2) t0_0 d))
    ∗ (∃ d, holding c cc0_stg1_0 ((dat W c).before (1 : Fin 2) t0_0 d)))
def pointPost (c : Dev nD) : sProp 𝕄 :=
  iprop(over c ∗ (dat W c).owesAt () t0_0.succ ∗ holding c cc0_stg0_0 (entry W c) ∗ holding c cc0_stg1_0 (total (entry W) c))

/-- The body takes the state before the point to the state after it: `exchange`. -/
theorem point (c : Dev nD) :
    pointPre W c ⊢ wp frame (wpE (defs₀ (F := F)) 𝒱₀ c none) Set.univ (body0 (F := F)) (fun _ => pointPost W c) := by
  unfold pointPre ready
  iintro ⟨⟨⟨%K, Hst⟩, Hcr, Hlev, Hland, ⟨%r, Hreg⟩⟩, Ho, ⟨%d0, %g0, %h0, Hin⟩, ⟨%d1, %g1, -, Hout⟩⟩
  rw [staged] at h0
  subst h0
  ihave Ho' := (owesAt_elim W c _ (due c) (owed_first W c)) $$ Ho
  icases Ho' with ⟨%Wt, HO⟩
  iapply (exchange (entry W) K c Wt fun _ => pointPost W c)
  unfold before
  isplitl [Hst Hcr Hlev Hland Hin Hout HO]
  · isplitl [Hst]; · iexact Hst
    isplitl [Hcr]; · iexact Hcr
    isplitl [Hlev]; · iexact Hlev
    isplitl [Hland]; · iexact Hland
    isplitl [Hin]; · rw [inPts_eq]; iexact Hin
    isplitl [Hout]; · iexists g1; unfold outPts; iexact Hout
    iexact HO
  unfold after pointPost over
  iintro ⟨Hz, Hland, Hin, Hout, ⟨%Wt', HO⟩⟩
  isplitl [Hz Hland Hreg]
  · isplitl [Hz]; · iexact Hz
    isplitl [Hland]; · iexact Hland
    iexists r; iexact Hreg
  isplitl [HO]; · iapply (owesAt_intro W c _ 0 (owed_last W c) Wt'); iexact HO
  isplitl [Hin]
  · iexists (entry W c); isplitr; · (ipureintro; rfl)
    iapply (Entails.of_eq (inPts_eq c (entry W c))) $$ Hin
  iexists (total (entry W) c); isplitr; · (ipureintro; rfl)
  unfold outPts; iexact Hout

set_option maxRecDepth 4000 in
theorem obligation (c : Dev nD) : BodyObligation (dat W c) (defs₀ (F := F)) 𝒱₀ () Set.univ := fun t => by
  rw [fin_N0 t]
  rw [bigSep_W0, bigSep_W0]
  rw [Φ_first, Φ_last]
  simp only [owns_whole]
  show pointPre W c ⊢ wp frame (wpE (defs₀ (F := F)) 𝒱₀ c none) Set.univ (body0 (F := F)) (fun _ => pointPost W c)
  exact point W c

end Cert.KernelIdeal.Exchange

end
-- ==== Proof.KernelIdeal.Step.lean ====
/- The kernel between the host code before it and the end of the program: what it is entered with, what it
   leaves, and that its counters are opened on entry. -/
module

public import proofs.«01_k».proof.Proof.KernelIdeal.Region
public import proofs.«01_k».proof.Proof.Gen.KernelIdeal.Regions

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (W : Dev nD → Valuation τ sig (Elt F))

/-- The kernel's own scoped counters: send, receive. -/
abbrev osem : Fin 2 → SemLoc sig := fun | 0 => .dma sendS | 1 => .dma recvS

theorem ownSems_eq (c : Dev nD) : (Pipeline.ownSems0 osem c : sProp 𝕄) = iprop(semVal (sendCell c) 0 ∗ semVal (recvCell c) 0) :=
  BI.bigSep_fin_two (fun k : Fin 2 => (semVal ((c : Thread nD τ), osem k) 0 : sProp 𝕄))

/-! ## Opening the counters -/

/-- What the program's launch keeps for device `c`: its position on its barrier counter, the right to open its
    send and receive counters once the kernel is entered, and the tokens it pays with. -/
def kept (K : GSem nD τ sig → ℕ) (c : Dev nD) : sProp 𝕄 :=
  iprop(known (entry W) K c ∗ atPos EX (barCell c) 0 ∅ 0 ∗ (openTok EX (sendCell c) ∗ openTok EX (recvCell c))
    ∗ reached EX (barCell (mate c)) 0 ∗ tokens c)

def waiting (c : Dev nD) : sProp 𝕄 := iprop((∃ K, kept W K c) ∗ credits c)
def entered (c : Dev nD) : sProp 𝕄 := iprop((∃ K, started (entry W) K c) ∗ credits c ∗ levAts L lv)
def left (c : Dev nD) : sProp 𝕄 := semVal (barCell c) 0

theorem opened (c : Dev nD) : iprop(waiting W c ∗ Pipeline.ownSems0 osem c ∗ levAts L lv) ⊢ (|={Set.univ}=> entered W c : sProp 𝕄) := by
  rw [ownSems_eq]
  unfold waiting entered kept
  iintro ⟨⟨⟨%K, #Hkn, Abar, ⟨Osend, Orecv⟩, #Rbar', Htok⟩, Hcr⟩, ⟨Zsend, Zrecv⟩, #Hlev⟩
  unfold known
  icases Hkn with ⟨#Ibar, #Isend, #Irecv, #Ibar', #Irecv'⟩
  imod (Rounds.cell_open EX (sched (entry W)) (g := sendCell c) (Set.mem_univ (K (sendCell c)))) $$ [Osend Zsend] with ⟨Asend, #Rsend⟩
  · isplitr; · iexact Isend
    isplitl [Osend] <;> iassumption
  imod (Rounds.cell_open EX (sched (entry W)) (g := recvCell c) (Set.mem_univ (K (recvCell c)))) $$ [Orecv Zrecv] with ⟨Arecv, #Rrecv⟩
  · isplitr; · iexact Irecv
    isplitl [Orecv] <;> iassumption
  imodintro
  isplitl [Abar Asend Arecv Htok]
  · iexists K; unfold started known
    isplitr
    · isplitr; · iexact Ibar
      isplitr; · iexact Isend
      isplitr; · iexact Irecv
      isplitr; · iexact Ibar'
      iexact Irecv'
    isplitl [Abar Asend Arecv]
    · isplitl [Abar]; · iexact Abar
      isplitl [Asend] <;> iassumption
    isplitr
    · isplitr; · iexact Rbar'
      isplitr; · iexact Rsend
      iexact Rrecv
    iexact Htok
  isplitl [Hcr]; · iexact Hcr
  iexact Hlev

/-! ## The record of the kernel's step -/

theorem facts : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The unscoped buffers beside the kernel's operand and result. -/
def others : Finset (DevRef τ sig) := Pipeline.ucRefs τ sig \ Pipeline.arrRefs (τ := τ) spec0

theorem stage_ne : ∀ (w : Fin 2) (s : Fin (cfg0.win w).nbuf), (SemLoc.dma ((cfg0.win w).sem s) : SemLoc sig) ≠ .dma recvS := by decide

theorem stage_level (c : Dev nD) (w : Fin 2) (s : Fin (cfg0.win w).nbuf) : lv ((c : Thread nD τ), .dma ((cfg0.win w).sem s)) () ≤ 0 := by
  dsimp only [lv]; rw [if_neg (fun h => by cases h), if_neg (stage_ne w s)]

theorem due_above (c : Dev nD) (t : Fin (cfg0.N + 1)) (g : GSem nD τ sig) (i : Unit) (h : 0 < (dat W c).owed t g i) : i ∈ L g ∧ (0 : ℕ) < lv g i := by
  rw [show (dat W c).owed t = if t.val = 0 then due c else 0 from rfl] at h
  split at h
  · rcases due_pos h with rfl | rfl
    · exact ⟨mem_L _ _, by rw [lv_recv]; decide⟩
    · exact ⟨mem_L _ _, by rw [lv_bar]; decide⟩
  · exact absurd h (Nat.lt_irrefl 0)

theorem share_full (c : Dev nD) (w : Fin cfg0.W) : (dat W c).share w = fullShare := by unfold Dat.share; split <;> rfl

theorem leave_out (c : Dev nD) : leave W c (Proc.devRef .tc main_v23) = total (entry W) c := Function.update_self _ _ _
theorem leave_of_ne (c : Dev nD) {b : DevRef τ sig} (h : b ≠ Proc.devRef .tc main_v23) : leave W c b = W c b := Function.update_of_ne h _ _

theorem leave_others (c : Dev nD) (b : DevRef τ sig) (hb : b ∈ others) : leave W c b = W c b :=
  leave_of_ne W c fun h => (Finset.mem_sdiff.mp hb).2 (by rw [h]; decide)

theorem leave_window (c : Dev nD) (w : Fin 2) : (dat W c).arrAt w cfg0.N = leave W c (Proc.devRef .tc (Pipeline.arrRef spec0 w)) :=
  match w with
  | 0 => ((dat W c).arrAt_in (0 : Fin 2) rfl _).trans (leave_of_ne W c (by decide)).symm
  | 1 => (written W c).trans (leave_out W c).symm

theorem enter_phi (c : Dev nD) :
    iprop(Pipeline.scopedRest spec0 c ∗ (∃ r, prngReg c r) ∗ StableHlo.held (c.tc : Thread nD τ) ∅ (W c) ∗ entered W c) ⊢ ((dat W c).Φ 0 : sProp 𝕄) := by
  rw [show (dat W c).Φ 0 = ready W c from Φ_first W c, scopedRest0_eq]
  unfold entered ready
  iintro ⟨⟨%f, Hland⟩, Hreg, -, HK, Hcr, Hlev⟩
  isplitl [HK]; · iexact HK
  isplitl [Hcr]; · iexact Hcr
  isplitl [Hlev]; · iexact Hlev
  isplitl [Hland]
  · iexists f; iapply (Entails.of_eq (landPts_eq c f).symm) $$ Hland
  iexact Hreg

theorem exit_phi (c : Dev nD) :
    (dat W c).Φ (Fin.last cfg0.N)
      ⊢ (iprop(Pipeline.scopedRest spec0 c ∗ (∃ r, prngReg c r) ∗ StableHlo.held (c.tc : Thread nD τ) ∅ (leave W c) ∗ Pipeline.ownSems0 osem c ∗ left c) : sProp 𝕄) := by
  rw [show (dat W c).Φ (Fin.last cfg0.N) = over c from Φ_last W c, scopedRest0_eq, ownSems_eq]
  unfold over rested left StableHlo.held
  rw [bigSep_empty]
  iintro ⟨⟨Zbar, Zsend, Zrecv⟩, ⟨%f, Hland⟩, Hreg⟩
  isplitl [Hland]
  · iexists f; iapply (Entails.of_eq (landPts_eq c f)) $$ Hland
  isplitl [Hreg]; · iexact Hreg
  isplitr; · iempintro
  isplitl [Zsend Zrecv]
  · isplitl [Zsend] <;> iassumption
  iexact Zbar

set_option backward.isDefEq.respectTransparency.types false in
def region : Pipeline.RegionSeg (pcfgs (F := F)) adm (dats W) () defs₀ 𝒱₀ L lv 0 :=
  Pipeline.RegionSeg.ofTalk (pcfgs (F := F)) adm (dats W) () defs₀ 𝒱₀ L lv 0 osem (by decide : Pipeline.OwnSemFacts spec0 osem)
    ∅ others (Finset.empty_subset _) facts rfl (fun c => (obligation W c).loose)
    (fun _ => 0) due (fun c => (owed_first W c).trans (zero_add _).symm) (owed_last W) (fun _ => rfl) (share_full W)
    W (leave W) (fun c b hb => leave_others W c b (Finset.mem_sdiff.mp hb).1)
    (waiting W) left (entered W) left (opened W) (enter_phi W) (exit_phi W)
    (fun c => by iintro H; imodintro; iexact H)
    (fun _ => 0)
    ⟨fun c w s => mem_L c _, fun c w s => stage_level c w s, fun c t g i h => due_above W c t g i h⟩
    (fun _ => iprop(emp))
    (fun _ _ => rfl) (leave_window W)

/-! ## Before and after, over all the unscoped buffers -/

theorem windows_sub : Pipeline.arrRefs (τ := τ) spec0 ⊆ Pipeline.ucRefs τ sig := Pipeline.arrRefs_sub_ucRefs spec0 (by decide)

/-- What rides along with the buffers up to the kernel, and after it. -/
def along (c : Dev nD) : sProp 𝕄 := iprop(waiting W c ∗ (∃ r, prngReg c r) ∗ ∃ Wt, owes (c : Thread nD τ) (due c) Wt)
def done (c : Dev nD) : sProp 𝕄 := iprop(left c ∗ ∃ Wt, owes (c : Thread nD τ) (0 : CellTallies nD τ sig Unit) Wt)

theorem region_pre (c : Dev nD) : iprop(StableHlo.held (c : Thread nD τ) (Pipeline.ucRefs τ sig) (W c) ∗ along W c) ⊢ (region W).pre c := by
  show _ ⊢ iprop(StableHlo.held (c.tc : Thread nD τ) (Pipeline.arrRefs (τ := τ) spec0) (W c) ∗ (∃ r, prngReg c r)
    ∗ (StableHlo.held (c.tc : Thread nD τ) others (W c) ∗ emp) ∗ waiting W c ∗ ∃ Wd, owes (c : Thread nD τ) (0 + due c) Wd)
  rw [zero_add, StableHlo.held_sub_split (c : Thread nD τ) windows_sub (W c)]
  unfold along others
  iintro ⟨⟨Ha, Hb⟩, Hw, Hreg, HO⟩
  isplitl [Ha]; · iexact Ha
  isplitl [Hreg]; · iexact Hreg
  isplitl [Hb]
  · isplitl [Hb]; · iexact Hb
    iempintro
  isplitl [Hw]; · iexact Hw
  iexact HO

theorem region_post (c : Dev nD) : (region W).post c ⊢ iprop(StableHlo.held (c : Thread nD τ) (Pipeline.ucRefs τ sig) (leave W c) ∗ done c) := by
  show iprop(StableHlo.held (c.tc : Thread nD τ) (Pipeline.arrRefs (τ := τ) spec0) (leave W c) ∗ (∃ r, prngReg c r)
    ∗ (StableHlo.held (c.tc : Thread nD τ) others (leave W c) ∗ emp) ∗ left c ∗ ∃ Wd, owes (c : Thread nD τ) (0 : CellTallies nD τ sig Unit) Wd) ⊢ _
  rw [StableHlo.held_sub_split (c : Thread nD τ) windows_sub (leave W c)]
  unfold done others
  iintro ⟨Ha, -, ⟨Hb, -⟩, Hz, HO⟩
  isplitl [Ha Hb]
  · isplitl [Ha] <;> iassumption
  isplitl [Hz]; · iexact Hz
  iexact HO

end Cert.KernelIdeal.Exchange

end
-- ==== Proof.KernelIdeal.Launch.lean ====
/- The launch: every counter's invariant is set up, the scoped ones for opening later, and each device is dealt
   the tokens and the credit it uses. A device pays its partner's barrier and receive counters, so those tokens
   cross over. -/
module

public import proofs.«01_k».proof.Proof.KernelIdeal.Step

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (W : Dev nD → Valuation τ sig (Elt F))

/-! ## The counters and the tokens -/

theorem osem_inj : Function.Injective osem := by decide
theorem osem_ne_bar : ∀ k : Fin 2, osem k ≠ .reg barS := by decide
theorem unscoped_only_bar : ∀ sm : SemLoc sig, sm.isScoped .tc = false → sm = .reg barS := by decide

def barAt : Dev nD ↪ GSem nD τ sig := ⟨barCell, fun _ _ h => congrArg (fun g : GSem nD τ sig => g.1.1) h⟩
def ownAt : Dev nD × Fin 2 ↪ GSem nD τ sig :=
  ⟨fun p => ((p.1 : Thread nD τ), osem p.2), fun _ _ h =>
    Prod.ext (congrArg (fun g : GSem nD τ sig => g.1.1) h) (osem_inj (congrArg Prod.snd h))⟩

/-- The barrier counters, in hand at the launch; the scoped counters, which are not. -/
abbrev bars : Finset (GSem nD τ sig) := Finset.univ.map barAt
abbrev owns2 : Finset (GSem nD τ sig) := Finset.univ.map ownAt

/-- The three counters of a device, in the order of its tokens. -/
abbrev tsem : Fin 3 → SemLoc sig := fun | 0 => .reg barS | 1 => .dma sendS | 2 => .dma recvS
theorem tsem_inj : Function.Injective tsem := by decide
def allToks : Finset (GSem nD τ sig × ℕ × Unit) :=
  Finset.univ.map ⟨fun p : Dev nD × Fin 3 => (((p.1 : Thread nD τ), tsem p.2), 0, ()), fun _ _ h =>
    Prod.ext (congrArg (fun t : GSem nD τ sig × ℕ × Unit => t.1.1.1) h)
      (tsem_inj (congrArg (fun t : GSem nD τ sig × ℕ × Unit => t.1.2) h))⟩

theorem bars_disjoint : Disjoint (bars : Finset (GSem nD τ sig)) owns2 := by
  rw [Finset.disjoint_left]
  intro g h₁ h₂
  obtain ⟨c, -, rfl⟩ := Finset.mem_map.mp h₁
  obtain ⟨p, -, h⟩ := Finset.mem_map.mp h₂
  exact osem_ne_bar p.2 (congrArg Prod.snd h)

theorem bar_mem (c : Dev nD) : barCell c ∈ (bars ∪ owns2 : Finset (GSem nD τ sig)) :=
  Finset.mem_union_left _ (Finset.mem_map_of_mem barAt (Finset.mem_univ c))
theorem send_mem (c : Dev nD) : sendCell c ∈ (bars ∪ owns2 : Finset (GSem nD τ sig)) :=
  Finset.mem_union_right _ (Finset.mem_map_of_mem ownAt (Finset.mem_univ (c, (0 : Fin 2))))
theorem recv_mem (c : Dev nD) : recvCell c ∈ (bars ∪ owns2 : Finset (GSem nD τ sig)) :=
  Finset.mem_union_right _ (Finset.mem_map_of_mem ownAt (Finset.mem_univ (c, (1 : Fin 2))))

/-- The launch's ghost element: the pipeline's at the staging counters, the exchange's at the rest. -/
def u₀ : UU :=
  (initOf (Pipeline.cells cfgs cellOf_inj) (Pipeline.launchToks cfgs cellOf_inj), launchOf bars owns2 allToks)

/-- The exchange's share of it, kept in one place (device 0) until every device's launch is at hand. -/
def parked (c : Dev nD) : sProp 𝕄 := if c = 0 then BI.own (EX (launchOf bars owns2 allToks)) else iprop(emp)

theorem parked_all : bigSep Finset.univ (parked (F := F)) = BI.own (EX (launchOf bars owns2 allToks)) := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

/-! ## What is shared and what is dealt -/

/-- What every device may consult: all the invariants, and that every barrier counter has entered its round. -/
def shared (κ : GSem nD τ sig → ℕ) : sProp 𝕄 :=
  iprop((bigSep (bars ∪ owns2) fun g => cellInv EX (sched (entry W)) (κ g) g) ∗ bigSep bars fun g => reached EX g 0)

instance shared_persistent (κ : GSem nD τ sig → ℕ) : BI.Persistent (shared W κ) := by unfold shared; infer_instance

theorem shared_inv (κ : GSem nD τ sig → ℕ) {g : GSem nD τ sig} (hg : g ∈ (bars ∪ owns2 : Finset (GSem nD τ sig))) :
    (bigSep (bars ∪ owns2) fun g => (cellInv EX (sched (entry W)) (κ g) g : sProp 𝕄)) ⊢ cellInv EX (sched (entry W)) (κ g) g :=
  bigSep_elim hg
theorem shared_bar (c : Dev nD) : (bigSep bars fun g => (reached EX g 0 : sProp 𝕄)) ⊢ reached EX (barCell c) 0 :=
  bigSep_elim (Finset.mem_map_of_mem barAt (Finset.mem_univ c))

/-- What only device `c` holds. -/
def own (c : Dev nD) : sProp 𝕄 :=
  iprop(atPos EX (barCell c) 0 ∅ 0 ∗ (openTok EX (sendCell c) ∗ openTok EX (recvCell c)) ∗ tokens c)

theorem kept_intro (κ : GSem nD τ sig → ℕ) (c : Dev nD) : iprop(shared W κ ∗ own c) ⊢ iprop(∃ K, kept W K c) := by
  unfold shared own kept known
  iintro ⟨⟨#HI, #HR⟩, Abar, Hop, Htok⟩
  iexists κ
  isplitr
  · isplitr; · iapply (shared_inv W κ (bar_mem c)); iexact HI
    isplitr; · iapply (shared_inv W κ (send_mem c)); iexact HI
    isplitr; · iapply (shared_inv W κ (recv_mem c)); iexact HI
    isplitr; · iapply (shared_inv W κ (bar_mem (mate c))); iexact HI
    iapply (shared_inv W κ (recv_mem (mate c))); iexact HI
  isplitl [Abar]; · iexact Abar
  isplitl [Hop]; · iexact Hop
  isplitr; · iapply (shared_bar (F := F) (mate c)); iexact HR
  iexact Htok

/-- The tokens of device `c`'s own counters. -/
def ownToks (c : Dev nD) : sProp 𝕄 :=
  iprop(dutyTok EX (barCell c) 0 () ∗ dutyTok EX (sendCell c) 0 () ∗ dutyTok EX (recvCell c) 0 ())

theorem bigSep_three (Φ : Fin 3 → sProp 𝕄) : bigSep Finset.univ Φ = iprop(Φ 0 ∗ Φ 1 ∗ Φ 2) :=
  bigSep_univ_eq_bigSepL [(0 : Fin 3), 1, 2] (by decide) (by decide) Φ

theorem allToks_eq : bigSep allToks (fun x => (dutyTok EX x.1 x.2.1 x.2.2 : sProp 𝕄)) = bigSep Finset.univ fun c : Dev nD => ownToks c := by
  unfold allToks; rw [bigSep_map, bigSep_univ_prod]
  exact bigSep_congr fun c _ => by unfold ownToks; rw [bigSep_three]; rfl

/-- The barrier and receive tokens handed across. -/
theorem tokens_across : (bigSep Finset.univ fun c : Dev nD => (ownToks c : sProp 𝕄)) ⊢ bigSep Finset.univ fun c : Dev nD => tokens c := by
  unfold ownToks tokens
  rw [bigSep_sep', bigSep_sep', bigSep_sep', bigSep_sep',
    bigSep_univ_equiv across (fun c : Dev nD => (dutyTok EX (barCell c) 0 () : sProp 𝕄)),
    bigSep_univ_equiv across (fun c : Dev nD => (dutyTok EX (recvCell c) 0 () : sProp 𝕄))]
  iintro ⟨H1, H2, H3⟩
  isplitl [H1]; · iexact H1
  isplitl [H3]; · iexact H3
  iexact H2

/-! ## The credit -/

theorem due_bar (d c : Dev nD) : due d (barCell c) () = if d = mate c then 1 else 0 := by
  unfold due
  rw [Pi.add_apply, Finsupp.add_apply, tallyAt_ne_cell (fun h => recv_ne_bar (congrArg Prod.snd h).symm), tallyAt_apply, Finsupp.zero_apply, Nat.zero_add]
  by_cases h : d = mate c
  · subst h; rw [mate_mate, if_pos ⟨rfl, rfl⟩, if_pos rfl]
  · rw [if_neg (fun hh => h (by rw [← mate_mate d]; exact congrArg mate (congrArg (fun g : GSem nD τ sig => g.1.1) hh.1).symm)), if_neg h]

theorem due_recv (d c : Dev nD) : due d (recvCell c) () = if d = mate c then N else 0 := by
  unfold due
  rw [Pi.add_apply, Finsupp.add_apply, tallyAt_apply, tallyAt_ne_cell (fun h => recv_ne_bar (congrArg Prod.snd h)), Finsupp.zero_apply, Nat.add_zero]
  by_cases h : d = mate c
  · subst h; rw [mate_mate, if_pos ⟨rfl, rfl⟩, if_pos rfl]
  · rw [if_neg (fun hh => h (by rw [← mate_mate d]; exact congrArg mate (congrArg (fun g : GSem nD τ sig => g.1.1) hh.1).symm)), if_neg h]

theorem credit_bar (c : Dev nD) :
    tallyOn (barCell c) (launchCredit (Pipeline.owing due) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => due_bar d c, Finset.sum_ite_eq' Finset.univ (mate c) fun _ => 1,
    if_pos (Finset.mem_univ _)]
theorem credit_recv (c : Dev nD) :
    tallyOn (recvCell c) (launchCredit (Pipeline.owing due) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => due_recv d c, Finset.sum_ite_eq' Finset.univ (mate c) fun _ => N,
    if_pos (Finset.mem_univ _)]

theorem credits_intro (c : Dev nD) : (Pipeline.launchCred due c : sProp 𝕄) ⊢ credits c := by
  unfold Pipeline.launchCred credits
  rw [bigSep_univ_at _ (SemLoc.reg barS), credit_bar]
  refine sep_mono_right ?_
  rw [← credit_recv]
  exact bigSep_elim (Finset.mem_erase.mpr ⟨recv_ne_bar, Finset.mem_univ _⟩)

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, bigSep_singleton]

end Cert.KernelIdeal.Exchange

end
-- ==== Proof.KernelIdeal.Run.lean ====
/- The whole program: from any memory with every counter at zero, every execution ends with the arguments as they were,
   every counter at zero, and the result holding the sum of the device's partial block and its partner's. -/
module

public import proofs.«01_k».proof.Proof.KernelIdeal.Launch

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (W : Dev nD → Valuation τ sig (Elt F)) (m : (ℓ : Loc nD τ sig) → Buf (Elt F) ℓ) (ρ : Dev nD → PrngReg)

/-! ## Starting -/

/-- Two families over the devices as one of pairs, and back. -/
theorem join {Φ Ψ : Dev nD → sProp 𝕄} : iprop(bigSep Finset.univ Φ ∗ bigSep Finset.univ Ψ) ⊢ bigSep Finset.univ fun c => iprop(Φ c ∗ Ψ c) :=
  Entails.of_eq (bigSep_sep _ _ _).symm
theorem part_ways {Φ Ψ : Dev nD → sProp 𝕄} : (bigSep Finset.univ fun c => iprop(Φ c ∗ Ψ c)) ⊢ iprop(bigSep Finset.univ Φ ∗ bigSep Finset.univ Ψ) :=
  Entails.of_eq (bigSep_sep _ _ _)

theorem deal_own :
    iprop(bigSep bars (fun g => (atPos EX g 0 ∅ 0 : sProp 𝕄)) ∗ bigSep owns2 (fun g => (openTok EX g : sProp 𝕄))
      ∗ bigSep allToks (fun x => (dutyTok EX x.1 x.2.1 x.2.2 : sProp 𝕄))) ⊢ bigSep Finset.univ fun c : Dev nD => own c := by
  have hopen : bigSep owns2 (fun g => (openTok EX g : sProp 𝕄))
      = bigSep Finset.univ (fun c : Dev nD => iprop(openTok EX (sendCell c) ∗ openTok EX (recvCell c))) := by
    rw [bigSep_map, bigSep_univ_prod]
    exact bigSep_congr fun c _ => bigSep_fin_two (fun k : Fin 2 => (openTok EX ((c : Thread nD τ), osem k) : sProp 𝕄))
  rw [hopen, allToks_eq, bigSep_map]
  unfold own
  iintro ⟨Hat, Hop, Htok⟩
  iapply join; isplitl [Hat]; · iexact Hat
  iapply join; isplitl [Hop]; · iexact Hop
  iapply (tokens_across (F := F)); iexact Htok

/-- Per device: what the launch hands over, with the credit read off. -/
theorem deal_rest (c : Dev nD) :
    iprop(unscopedSems0 c ∗ owes (c : Thread nD τ) (due c) ∅ ∗ Pipeline.launchCred due c ∗ prngReg c (ρ c) ∗ parked c)
      ⊢ (iprop((credits c ∗ (∃ r, prngReg c r) ∗ ∃ Wt, owes (c : Thread nD τ) (due c) Wt) ∗ (semVal (barCell c) 0 ∗ parked c)) : sProp 𝕄) := by
  rw [unscopedSems_eq]
  iintro ⟨Hs, HO, Hcr, Hp, HG⟩
  isplitl [HO Hcr Hp]
  · isplitl [Hcr]; · iapply (credits_intro (F := F) c); iexact Hcr
    isplitl [Hp]; · iexists (ρ c); iexact Hp
    iexists ∅; iexact HO
  isplitl [Hs] <;> iassumption

theorem along_intro (κ : GSem nD τ sig → ℕ) (c : Dev nD) :
    iprop(shared W κ ∗ (own c ∗ (credits c ∗ (∃ r, prngReg c r) ∗ ∃ Wt, owes (c : Thread nD τ) (due c) Wt))) ⊢ along W c := by
  unfold along waiting
  iintro ⟨#HS, Hown, Hcr, Hp, HO⟩
  isplitl [Hown Hcr]
  · isplitl [Hown]
    · iapply (kept_intro W κ c); isplitr; · iexact HS
      iexact Hown
    iexact Hcr
  isplitl [Hp] <;> iassumption

theorem start :
    iprop((bigSep Finset.univ fun c : Dev nD => iprop(unscopedSems0 c ∗ owes (c : Thread nD τ) (due c) ∅ ∗ Pipeline.launchCred due c
        ∗ prngReg c (ρ c) ∗ parked c)) ∗ levAts L lv)
      ⊢ (|={Set.univ}=> bigSep Finset.univ (along W) : sProp 𝕄) := by
  have hbars : bigSep Finset.univ (fun c : Dev nD => (semVal (barCell c) 0 : sProp 𝕄)) = bigSep bars (fun g => (semVal g 0 : sProp 𝕄)) :=
    (bigSep_map (s := Finset.univ) barAt (Φ := fun g : GSem nD τ sig => (semVal g 0 : sProp 𝕄))).symm
  iintro ⟨H, -⟩
  ihave H1 := (show _ ⊢ (bigSep Finset.univ fun c : Dev nD => iprop((credits c ∗ (∃ r, prngReg c r) ∗ ∃ Wt, owes (c : Thread nD τ) (due c) Wt)
      ∗ (semVal (barCell c) 0 ∗ parked c)) : sProp 𝕄) from bigSep_mono fun c _ => deal_rest (F := F) ρ c) $$ H
  ihave H2 := part_ways $$ H1; icases H2 with ⟨HB, H3⟩
  ihave H4 := part_ways $$ H3; icases H4 with ⟨Hv, HG⟩
  ihave Hu := (Entails.of_eq (parked_all (F := F))) $$ HG
  ihave Hv' := (Entails.of_eq hbars) $$ Hv
  imod (Rounds.fund_launch EX (sched (entry W)) bars_disjoint (fun g _ h => h) allToks) $$ [Hv' Hu] with ⟨%κ, -, #Hinv, #Hr, Hat, Hop, Htok⟩
  · isplitl [Hv'] <;> iassumption
  imodintro
  iapply (bigSep_with_persistent (R := shared W κ)
    (Φ := fun c => iprop(own c ∗ (credits c ∗ (∃ r, prngReg c r) ∗ ∃ Wt, owes (c : Thread nD τ) (due c) Wt))) fun c _ => along_intro W κ c)
  isplitr
  · unfold shared
    isplitr; · iexact Hinv
    iexact Hr
  iapply join
  isplitr [HB]
  · iapply (deal_own (F := F))
    isplitl [Hat]; · iexact Hat
    isplitl [Hop] <;> iassumption
  · iexact HB

/-! ## The run -/

/-- Before the kernel, and after it. -/
def rides : Fin 2 → Dev nD → sProp 𝕄 := fun | 0 => along W | 1 => done

/-- Where a device's program ends: its last valuation, and its barrier counter at zero. -/
def ends (c : Dev nD) : sProp 𝕄 := iprop(StableHlo.held (c : Thread nD τ) (Pipeline.ucRefs τ sig) (leave (V4 m) c) ∗ left c)

/-- The exchange as the kernel meets it: on the memory after the host code before it. -/
abbrev kernelRegion : Pipeline.RegionSeg (pcfgs (F := F)) adm (dats (V4 m)) () defs₀ 𝒱₀ L lv 0 := region (V4 m)

theorem leave_arg0 (c : Dev nD) : leave (V4 m) c main_arg0 = m ((c : Thread nD τ).loc main_arg0) := by
  rw [leave_of_ne (V4 m) c (by decide), V4_of m c _ (by decide), V3_of m c _ (by decide), V2_of m c _ (by decide), V1_of m c _ (by decide)]
theorem leave_arg1 (c : Dev nD) : leave (V4 m) c main_arg1 = m ((c : Thread nD τ).loc main_arg1) := by
  rw [leave_of_ne (V4 m) c (by decide), V4_of m c _ (by decide), V3_of m c _ (by decide), V2_of m c _ (by decide), V1_of m c _ (by decide)]

set_option backward.isDefEq.respectTransparency.types false in
/-- Every execution ends, with the result the sum of the two partial blocks, the arguments unchanged and every counter at zero. -/
theorem run : θ_run defs (onTc (τ := τ) (main (F := F))) ⟨m, fun _ => 0, ρ⟩ (fun r => (∀ c : Dev nD,
      r.2.mem ((c.tc : Thread nD τ).loc main_v23) = total (entry (V4 m)) c
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) := by
  refine Pipeline.θ_run_regions_kit_dev_sems (pcfgs (F := F)) adm (dats (V4 m)) () cellOf_inj EP defs₀ 𝒱₀ L lv m ρ main
    (segs m 𝒱₀ L lv (rides (V4 m)) () (dats (V4 m)) (kernelRegion m))
    (fun c Q => by
      rewrite [main_chain c, Pipeline.Seg.run_eq_chain,
        show (segs m 𝒱₀ L lv (rides (V4 m)) () (dats (V4 m)) (kernelRegion m) c).map Pipeline.Seg.prog = [
          StableHlo.seq (hostOps0 c),
          StableHlo.seq hostOps0_1,
          StableHlo.seq hostOps0_2,
          StableHlo.seq hostOps0_3,
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide) due L_of_ne parked u₀
    (by
      unfold u₀
      iintro Hu
      ihave H := (ownU_pair _ _) $$ Hu
      icases H with ⟨HP, HX⟩
      imodintro
      isplitl [HP]; · iexact HP
      rw [parked_all]; iexact HX)
    (T₀ := fun c => iprop(StableHlo.held (c : Thread nD τ) (Pipeline.ucRefs τ sig) (V0 m c) ∗ along (V4 m) c))
    (Tₙ := ends m)
    (hch := fun c => ⟨.rfl, .rfl, .rfl, .rfl, region_pre (V4 m) c, (region_post (V4 m) c).trans ?_⟩)
    (hinit := ?_)
    (QY := fun c s => (s.mem ((c.tc : Thread nD τ).loc main_v23) = total (entry (V4 m)) c
      ∧ s.mem ((c.tc : Thread nD τ).loc main_arg0) = m ((c.tc : Thread nD τ).loc main_arg0)
      ∧ s.mem ((c.tc : Thread nD τ).loc main_arg1) = m ((c.tc : Thread nD τ).loc main_arg1)) ∧ s.sem (barCell c) = 0)
    (hfin := fun c s' => ?_)
    (hQ := fun s h hs => ⟨fun c => (h c).1, sem_eq_zero hs fun c sm hsm => by
      obtain rfl := unscoped_only_bar sm hsm
      exact (h c).2⟩)
  · unfold ends done
    iintro ⟨Hh, Hz, HO⟩
    isplitr [HO]
    · isplitl [Hh] <;> iassumption
    iexact HO
  · have hsplit : (bigSep Finset.univ fun c : Dev nD => iprop(unscopedBufs c (fun b => m ((c.tc : Thread nD τ).loc b)) ∗ unscopedSems0 c
          ∗ owes (c.tc : Thread nD τ) (due c) ∅ ∗ Pipeline.launchCred due c ∗ prngReg c (ρ c) ∗ parked c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (due c) ∅ ∗ Pipeline.launchCred due c
              ∗ prngReg c (ρ c) ∗ parked c)) : sProp 𝕄) := by
      rw [← bigSep_sep']
      exact bigSep_mono fun c _ => by
        rw [← Pipeline.unscopedBufs_held (Ix := Unit) (Name := ℕ) (U := UU) (Lvl := ℕ) c (V0 m c)]; exact BI.Entails.refl _
    iintro ⟨H, Hlev⟩
    ihave H' := hsplit $$ H
    icases H' with ⟨Hh, Hr⟩
    imod (start (V4 m) ρ) $$ [Hr Hlev] with HE
    · isplitl [Hr] <;> iassumption
    imodintro
    rw [bigSep_sep']
    isplitl [Hh] <;> iassumption
  · unfold ends left StableHlo.held
    iintro ⟨⟨Hh, Hb0⟩, HSI⟩
    icombine HSI Hb0 gives %hb
    ihave Hr := (pointsTo_read_all (Pipeline.ucRefs τ sig) (fun b => ((c : Thread nD τ).1, b)) (leave (V4 m) c) s') $$ [Hh HSI]
    · isplitl [Hh] <;> iassumption
    icases Hr with ⟨%h, HSI⟩
    imodintro
    isplitr
    · ipureintro
      have at' (r : Ref sig .tc) (hr : ¬ (Proc.devRef (τ := τ) .tc r).isScoped) := h (Proc.devRef .tc r) (Finset.mem_filter.mpr ⟨StableHlo.devRef_mem_tcRefs r, hr⟩)
      exact ⟨⟨(at' main_v23 (by decide)).trans (leave_out (V4 m) c), (at' main_arg0 (by decide)).trans (leave_arg0 m c),
        (at' main_arg1 (by decide)).trans (leave_arg1 m c)⟩, by simpa using hb⟩
    · iexact HSI

end Cert.KernelIdeal.Exchange

end
-- ==== Proof.KernelIdeal.Words.lean ====
/- The index arithmetic of one row, on 32-bit words: the first row of a device's half of the table, the place of a
   row number in it, whether it is there at all, and the clamp before the look-up. -/
module

public import Idealize.ShloMosaic.Lib.StableHlo
public import Idealize.ShloMosaic.PureOps

@[expose] public section

namespace Cert.KernelIdeal.Exchange

open Idealize.ShloMosaic

/-- Whether the place `p` is in a half of 8192 rows. -/
def inHalf (p : BitVec 32) : BitVec 1 := IntOp.andi (IntOp.cmpi .sge p 0#32) (IntOp.cmpi .slt p 8192#32)
/-- The place clamped into the half, -/
def clamped (p : BitVec 32) : BitVec 32 := IntOp.minsi 8191#32 (IntOp.maxsi 0#32 p)
/-- and counted from the end where it is negative. -/
def wrapped (size p : BitVec 32) : BitVec 32 := Scalar.select (IntOp.cmpi .slt p 0#32) (IntOp.addi p size) p

theorem toInt_small {n : ℕ} (hn : n < 2 ^ 31) : (BitVec.ofNat 32 n).toInt = n := by
  rw [BitVec.toInt_eq_toNat_cond, BitVec.toNat_ofNat]; split <;> omega

theorem slt_ofNat {a b : ℕ} (ha : a < 2 ^ 31) (hb : b < 2 ^ 31) : (BitVec.ofNat 32 a).slt (BitVec.ofNat 32 b) = decide (a < b) := by
  rw [BitVec.slt_eq_decide, toInt_small ha, toInt_small hb]; exact decide_eq_decide.mpr Int.ofNat_lt

theorem sle_ofNat {a b : ℕ} (ha : a < 2 ^ 31) (hb : b < 2 ^ 31) : (BitVec.ofNat 32 a).sle (BitVec.ofNat 32 b) = decide (a ≤ b) := by
  rw [BitVec.sle_eq_decide, toInt_small ha, toInt_small hb]; exact decide_eq_decide.mpr Int.ofNat_le

theorem inHalf_eq (p : BitVec 32) : inHalf p = BitVec.ofBool ((0#32).sle p) &&& BitVec.ofBool (p.slt 8192#32) := rfl

theorem ofNat_toNat_small (p : BitVec 32) (n : ℕ) (h : p.toNat = n) : p = BitVec.ofNat 32 n := by
  rw [← h, BitVec.ofNat_toNat, BitVec.setWidth_eq]

/-- A small number is not negative, so nothing is counted from the end. -/
theorem wrapped_small (size : BitVec 32) {n : ℕ} (hn : n < 2 ^ 31) : wrapped size (BitVec.ofNat 32 n) = BitVec.ofNat 32 n := by
  unfold wrapped IntOp.cmpi Scalar.select
  rw [slt_ofNat hn (by decide), decide_eq_false (by omega)]
  rfl

theorem clamped_small {n : ℕ} (hn : n < 8192) : clamped (BitVec.ofNat 32 n) = BitVec.ofNat 32 n := by
  unfold clamped IntOp.minsi IntOp.maxsi
  rw [slt_ofNat (by omega) (by decide), decide_eq_false (by omega), if_neg Bool.false_ne_true,
    slt_ofNat (by decide) (by omega), decide_eq_false (by omega), if_neg Bool.false_ne_true]

theorem inHalf_small {n : ℕ} (hn : n < 8192) : inHalf (BitVec.ofNat 32 n) = 1#1 := by
  rw [inHalf_eq, sle_ofNat (by decide) (by omega), slt_ofNat (by omega) (by decide), decide_eq_true hn, decide_eq_true (Nat.zero_le n)]
  rfl

/-- Beyond the half. -/
theorem inHalf_above {n : ℕ} (h₁ : 8192 ≤ n) (h₂ : n < 2 ^ 31) : inHalf (BitVec.ofNat 32 n) = 0#1 := by
  rw [inHalf_eq, slt_ofNat h₂ (by decide), decide_eq_false (by omega)]
  exact BitVec.and_zero

/-- Before the half. -/
theorem inHalf_below {n : ℕ} (hn : n < 8192) : inHalf (BitVec.ofNat 32 n - 8192#32) = 0#1 := by
  rw [inHalf_eq, show (0#32).sle (BitVec.ofNat 32 n - 8192#32) = false by
      rw [BitVec.sle_eq_decide, toInt_small (by decide : 0 < 2 ^ 31), BitVec.toInt_eq_toNat_cond, BitVec.toNat_sub, BitVec.toNat_ofNat, BitVec.toNat_ofNat]
      exact decide_eq_false (by split <;> omega)]
  exact BitVec.zero_and

theorem sub_half {n : ℕ} (h : 8192 ≤ n) (hn : n < 16384) : BitVec.ofNat 32 n - 8192#32 = BitVec.ofNat 32 (n - 8192) :=
  BitVec.eq_of_toNat_eq (by rw [BitVec.toNat_sub, BitVec.toNat_ofNat, BitVec.toNat_ofNat, BitVec.toNat_ofNat]; omega)

/-- The words from 0 up to 16384, read off the two comparisons. -/
theorem range_of_tests (w : BitVec 32) (h : IntOp.andi (IntOp.cmpi .sge w 0#32) (IntOp.cmpi .slt w 16384#32) = 1#1) : w.toNat < 16384 := by
  unfold IntOp.cmpi at h
  dsimp only at h
  have h0 : (0#32).sle w = true := by
    by_contra hc; rw [Bool.not_eq_true] at hc; rw [hc] at h; exact absurd (h.symm.trans BitVec.zero_and) (by decide)
  have h1 : w.slt 16384#32 = true := by
    by_contra hc; rw [Bool.not_eq_true] at hc; rw [hc] at h; exact absurd (h.symm.trans BitVec.and_zero) (by decide)
  rw [BitVec.sle_eq_decide, BitVec.toInt_eq_toNat_cond, BitVec.toInt_eq_toNat_cond] at h0
  rw [BitVec.slt_eq_decide, BitVec.toInt_eq_toNat_cond, BitVec.toInt_eq_toNat_cond] at h1
  have := w.isLt
  simp only [decide_eq_true_eq, BitVec.toNat_ofNat] at h0 h1
  split at h0 <;> split at h1 <;> omega

end Cert.KernelIdeal.Exchange
-- ==== Proof.KernelIdeal.Partial.lean ====
/- What the host code before the kernel leaves in a device's input block: for each row number, the table's row where it is
   in the device's half, and zeros elsewhere. -/
module

public import proofs.«01_k».proof.Proof.KernelIdeal.Words
public import proofs.«01_k».proof.Proof.Gen.KernelIdeal.Regions
public import Idealize.ShloMosaic.Lib.StableHlo.Run

@[expose] public section

noncomputable section

namespace Cert.KernelIdeal.Exchange

open Cert.KernelIdeal Cert.KernelIdeal.Gen
open Idealize.ShloMosaic Idealize.ShloMosaic.TcCoe Idealize.ShloMosaic.StableHlo

variable {F : FTy → Type} [FloatOps F]

/-- One word at every one of the 1024 places. -/
def everywhere (x : IVec S_ 32) : IVec S1024 32 := broadcastInDim S1024 ![] bcast_S_S1024 x
/-- The first row of device `c`'s half: 8192 times its first mesh coordinate. -/
def firstRow (c : Dev nD) : IVec S_ 32 :=
  muli (Host.remui (Host.divui (constantI S_ 32 (Dev.word c)) (constantI S_ 32 16#32)) (constantI S_ 32 2#32)) (constantI S_ 32 8192#32)
/-- Each row number's place in the half. -/
def places (c : Dev nD) (ids : IVec S1024 32) : IVec S1024 32 := subi ids (everywhere (firstRow c))
/-- Which of them are in it. -/
def mine (c : Dev nD) (ids : IVec S1024 32) : IVec S1024 1 :=
  andi (cmpi .sge (places c ids) (everywhere (constantI S_ 32 0#32))) (cmpi .slt (places c ids) (everywhere (constantI S_ 32 8192#32)))
def inside (c : Dev nD) (ids : IVec S1024 32) : IVec S1024 32 :=
  minsi (everywhere (constantI S_ 32 8191#32)) (maxsi (everywhere (constantI S_ 32 0#32)) (places c ids))
def looked (c : Dev nD) (ids : IVec S1024 32) : IVec S1024 32 :=
  select (cmpi .slt (inside c ids) (everywhere (constantI S_ 32 0#32))) (addi (inside c ids) (everywhere (constantI S_ 32 8192#32))) (inside c ids)
/-- The rows looked up, and the block with the others at zero. -/
def rows (c : Dev nD) (ids : IVec S1024 32) (E : FVec F S8192x1024 .f32) : FVec F S1024x1024 .f32 :=
  Host.gather gather_S8192x1024_S1024x1_S1024x1024_1_0_n_n_0_1_11024 E (broadcastInDim S1024x1 ![0] bcast_S1024_S1024x1_0 (looked c ids))
def block (c : Dev nD) (ids : IVec S1024 32) (E : FVec F S8192x1024 .f32) : FVec F S1024x1024 .f32 :=
  select (broadcastInDim S1024x1024 ![0, 1] bcast_S1024x1_S1024x1024_0_1 (broadcastInDim S1024x1 ![0] bcast_S1024_S1024x1_0 (mine c ids)))
    (rows c ids E) (broadcastInDim S1024x1024 ![] bcast_S_S1024x1024 (constant S_ .f32 0x00000000#32))

variable (m : (ℓ : Loc nD τ sig) → Buf (Elt F) ℓ) (c : Dev nD)

theorem V1_v7 : V1 m c main_v7 = places c (m ((c : Thread nD τ).loc main_arg0)) := by after_results; rfl
theorem V1_v12 : V1 m c main_v12 = mine c (m ((c : Thread nD τ).loc main_arg0)) := by after_results; rfl
theorem V1_c4 : V1 m c main_c_4 = constantI S_ 32 0#32 := by after_results
theorem V1_c5 : V1 m c main_c_5 = constantI S_ 32 8191#32 := by after_results

theorem V2_v13 : V2 m c main_v13 = inside c (m ((c : Thread nD τ).loc main_arg0)) := by
  have h : ∀ V : Valuation τ sig (Elt F), after hostOps0_1 V main_v13 = minsi (everywhere (V main_c_5)) (maxsi (everywhere (V main_c_4)) (V main_v7)) :=
    fun V => by after_results; rfl
  refine (h (V1 m c)).trans ?_
  rw [V1_v7, V1_c4, V1_c5]; rfl

theorem V3_v14 : V3 m c main_v14 = broadcastInDim S1024x1 ![0] bcast_S1024_S1024x1_0 (mine c (m ((c : Thread nD τ).loc main_arg0))) := by
  have h : ∀ V : Valuation τ sig (Elt F), after hostOps0_2 V main_v14 = broadcastInDim S1024x1 ![0] bcast_S1024_S1024x1_0 (V main_v12 : IVec S1024 1) :=
    fun V => by after_results
  refine (h (V2 m c)).trans ?_
  rw [V2_of m c _ (by decide), V1_v12]
theorem V3_v21 : V3 m c main_v21 = rows c (m ((c : Thread nD τ).loc main_arg0)) (m ((c : Thread nD τ).loc main_arg1)) := by
  have h : ∀ V : Valuation τ sig (Elt F), after hostOps0_2 V main_v21
      = Host.gather gather_S8192x1024_S1024x1_S1024x1024_1_0_n_n_0_1_11024 (V main_arg1) (broadcastInDim S1024x1 ![0] bcast_S1024_S1024x1_0
        (select (cmpi .slt (V main_v13) (everywhere (constantI S_ 32 0#32))) (addi (V main_v13) (everywhere (constantI S_ 32 8192#32))) (V main_v13 : IVec S1024 32))) :=
    fun V => by after_results; rfl
  refine (h (V2 m c)).trans ?_
  rw [V2_v13, V2_of m c _ (by decide), V1_of m c _ (by decide)]; rfl
theorem V3_cst : V3 m c main_cst = constant S_ .f32 0x00000000#32 := by
  have h : ∀ V : Valuation τ sig (Elt F), after hostOps0_2 V main_cst = (constant S_ .f32 0x00000000#32 : FVec F S_ .f32) := fun V => by after_results
  exact h _

/-- The kernel's input block. -/
theorem V4_v22 : V4 m c main_v22 = block c (m ((c : Thread nD τ).loc main_arg0)) (m ((c : Thread nD τ).loc main_arg1)) := by
  have h : ∀ V : Valuation τ sig (Elt F), after hostOps0_3 V main_v22
      = select (broadcastInDim S1024x1024 ![0, 1] bcast_S1024x1_S1024x1024_0_1 (V main_v14 : IVec S1024x1 1)) (V main_v21 : FVec F S1024x1024 .f32)
        (broadcastInDim S1024x1024 ![] bcast_S_S1024x1024 (V main_cst : FVec F S_ .f32)) :=
    fun V => by after_results; rfl
  refine (h (V3 m c)).trans ?_
  rw [V3_v14, V3_v21, V3_cst]; rfl

end Cert.KernelIdeal.Exchange

end
-- ==== Proof.KernelIdeal.Value.lean ====
/- The value: of the two partial blocks added, one holds the table's row and the other zeros, so the sum is the row of the
   whole table; entry by entry, that is the reference's result. -/
module

public import proofs.«01_k».proof.Proof.KernelIdeal.Partial
public import proofs.«01_k».proof.Proof.KernelIdeal.Pairs
public import proofs.«01_k».proof.Proof.Gen.ReferenceIdeal
public import Idealize.ShloMosaic.Lib.Routing.Ops
public import Idealize.ShloMosaic.Lib.Layout
public import Idealize.ShloMosaic.PureOps.Ideal.Laws

@[expose] public section

noncomputable section

namespace Cert.KernelIdeal.Exchange

open Cert.KernelIdeal Cert.KernelIdeal.Gen
open Idealize.ShloMosaic Idealize.ShloMosaic.ValueIdx

/-- Reading an array of 1024 as a one-column array, or along the rows of the block. -/
theorem column_apply {α : Type} (x : S1024.Idx → α) (t : Fin 1024) (z : Fin 1) :
    broadcastInDim S1024x1 ![0] bcast_S1024_S1024x1_0 x (ix2 t z) = x (ix1 t) := by
  unfold broadcastInDim
  refine congrArg x (funext fun a => ?_)
  match a with
  | ⟨0, _⟩ => rfl

theorem across_apply {α : Type} (x : S1024x1.Idx → α) (t j : Fin 1024) :
    broadcastInDim S1024x1024 ![0, 1] bcast_S1024x1_S1024x1024_0_1 x (ix2 t j) = x (ix2 t 0) := by
  unfold broadcastInDim
  refine congrArg x (funext fun a => ?_)
  match a with
  | ⟨0, _⟩ => rfl
  | ⟨1, _⟩ => rfl

/-! ## One partial block -/

theorem firstRow_apply (c : Dev nD) (i : S_.Idx) : firstRow c i = if c.val < 16 then 0#32 else 8192#32 := by
  show IntOp.muli (IntOp.remui .host (IntOp.divui .host (Dev.word c) 16#32) 2#32) 8192#32 = _
  unfold IntOp.remui IntOp.divui
  rw [if_neg (by decide), if_neg (by decide)]
  unfold IntOp.muli
  revert c; decide

section Block

variable {F : FTy → Type} [FloatOps F] (c : Dev nD) (ids : IVec S1024 32) (E : FVec F S8192x1024 .f32) (t j : Fin 1024)

theorem places_apply : places c ids (ix1 t) = ids (ix1 t) - (if c.val < 16 then 0#32 else 8192#32) :=
  congrArg (ids (ix1 t) - ·) (firstRow_apply c _)

theorem mine_apply : mine c ids (ix1 t) = inHalf (places c ids (ix1 t)) := rfl
theorem looked_apply : looked c ids (ix1 t) = wrapped 8192#32 (clamped (places c ids (ix1 t))) := rfl

theorem block_apply : block c ids E (ix2 t j)
    = Scalar.select (inHalf (places c ids (ix1 t))) (rows c ids E (ix2 t j)) (FloatOps.ofBits .f32 0x00000000#32) := by
  show Scalar.select (broadcastInDim S1024x1024 ![0, 1] bcast_S1024x1_S1024x1024_0_1 (broadcastInDim S1024x1 ![0] bcast_S1024_S1024x1_0 (mine c ids)) (ix2 t j)) _ _ = _
  rw [across_apply, column_apply, mine_apply]; rfl

/-- A row in the half is the table's; -/
theorem block_here {r : ℕ} (hr : r < 8192) (h : places c ids (ix1 t) = BitVec.ofNat 32 r) : block c ids E (ix2 t j) = E (ix2 ⟨r, hr⟩ j) := by
  rw [block_apply, h, inHalf_small hr]
  refine (if_pos rfl).trans ?_
  exact Routing.gather_row gather_S8192x1024_S1024x1_S1024x1024_1_0_n_n_0_1_11024 rfl rfl rfl rfl rfl E _ t j ⟨r, hr⟩
    ((column_apply _ t 0).trans (by rw [looked_apply, h, clamped_small hr, wrapped_small _ (by omega)])) (by decide)

/-- one outside it is zeros. -/
theorem block_away (h : inHalf (places c ids (ix1 t)) = 0#1) : block c ids E (ix2 t j) = FloatOps.ofBits .f32 0x00000000#32 := by
  rw [block_apply, h]; exact if_neg (by decide)

end Block

/-! ## The sum of the two -/

/-- The block of the whole table device `c` holds. -/
abbrev half {α : Type} (c : Dev nD) (T : (⟨2, ![16384, 1024]⟩ : Shape).Idx → α) : S8192x1024.Idx → α :=
  Layout.blockN ⟨2, ![8192, 1024]⟩ ⟨2, ![16384, 1024]⟩ (Layout.meshBlock [2, 4, 4] ![[0], []] c) T

theorem half_apply {α : Type} (c : Dev nD) (T : (⟨2, ![16384, 1024]⟩ : Shape).Idx → α) (r : Fin 8192) (j : Fin 1024) (n : Fin 16384)
    (h : n.val = (if c.val < 16 then 0 else 8192) + r.val) : half c T (ix2 r j) = T (ix2 n j) := by
  have hc : ((Layout.meshBlock [2, 4, 4] ![[0], []] c : (b : Fin 2) → Fin (Layout.cutSize [2, 4, 4] (![[0], []] b))) 0).val * 8192
      = if c.val < 16 then 0 else 8192 := by clear h; revert c; decide
  refine congrArg T (funext fun a => Fin.ext ?_)
  match a with
  | ⟨0, _⟩ => exact (congrArg (· + r.val) hc).trans h.symm
  | ⟨1, _⟩ => exact (Nat.zero_add j.val)

theorem pay_apply (x y : FVec Ideal S1024x1024 .f32) (i : S1024x1024.Idx) : k0_pay1 x y i = x i + y i :=
  congrArg (fun v : Ideal .f32 => v + y i) (congrArg x (Shape.reshapeEquiv_self shapeCasts_S1024x1024_S1024x1024 i))

/-- Where the row number is in range, the two partial blocks add up to that row of the whole table. -/
theorem sum_apply (c : Dev nD) (ids : IVec S1024 32) (T : (⟨2, ![16384, 1024]⟩ : Shape).Idx → Ideal .f32) (t j : Fin 1024)
    (h : (ids (ix1 t)).toNat < 16384) :
    k0_pay1 (block c ids (half c T)) (block (mate c) ids (half (mate c) T)) (ix2 t j) = T (ix2 ⟨(ids (ix1 t)).toNat, h⟩ j) := by
  have hz : (FloatOps.ofBits .f32 0x00000000#32 : Ideal .f32) = 0 := by
    rw [Ideal.ofBits_def]; exact Ideal.ofBits_zero_f32
  have hw := ofNat_toNat_small (ids (ix1 t)) _ rfl
  have low {d : Dev nD} (hd : d.val < 16) : places d ids (ix1 t) = BitVec.ofNat 32 (ids (ix1 t)).toNat := by
    rw [places_apply, if_pos hd, BitVec.sub_zero]; exact hw
  have high {d : Dev nD} (hd : ¬ d.val < 16) : places d ids (ix1 t) = BitVec.ofNat 32 (ids (ix1 t)).toNat - 8192#32 := by
    rw [places_apply, if_neg hd, ← hw]
  have there {d : Dev nD} (hd : (ids (ix1 t)).toNat < 8192 ↔ d.val < 16) :
      block d ids (half d T) (ix2 t j) = T (ix2 ⟨(ids (ix1 t)).toNat, h⟩ j) := by
    by_cases hl : d.val < 16
    · have hn := hd.mpr hl
      rw [block_here d ids _ t j hn (low hl), half_apply d T _ j ⟨(ids (ix1 t)).toNat, h⟩ (by rw [if_pos hl, Nat.zero_add])]
    · have hn : 8192 ≤ (ids (ix1 t)).toNat := not_lt.mp fun hh => hl (hd.mp hh)
      rw [block_here d ids _ t j (by omega : (ids (ix1 t)).toNat - 8192 < 8192) ((high hl).trans (sub_half hn h)),
        half_apply d T _ j ⟨(ids (ix1 t)).toNat, h⟩ (by rw [if_neg hl]; exact (Nat.add_sub_cancel' hn).symm)]
  have away {d : Dev nD} (hd : ¬ ((ids (ix1 t)).toNat < 8192 ↔ d.val < 16)) : block d ids (half d T) (ix2 t j) = 0 := by
    rw [← hz]
    refine block_away d ids _ t j ?_
    by_cases hl : d.val < 16
    · rw [low hl]; exact inHalf_above (not_lt.mp fun hh => hd ⟨fun _ => hl, fun _ => hh⟩) (by omega)
    · rw [high hl]; exact inHalf_below (by by_contra hh; exact hd ⟨fun h' => absurd h' hh, fun h' => absurd h' hl⟩)
  have hm : (mate c).val < 16 ↔ ¬ c.val < 16 := by revert c; decide
  rw [pay_apply]
  by_cases hc : (ids (ix1 t)).toNat < 8192 ↔ c.val < 16
  · rw [there hc, away (by rw [hm]; tauto)]; exact add_zero _
  · rw [away hc, there (by rw [hm]; tauto)]; exact zero_add _

/-! ## The reference -/

/-- The reference's result: the rows of the whole table at the row numbers. -/
def looked_up (ids : IVec S1024 32) (T : FVec Ideal ReferenceIdeal.S16384x1024 .f32) : FVec Ideal S1024x1024 .f32 :=
  Host.gather ReferenceIdeal.gather_S16384x1024_S1024x1_S1024x1024_1_0_n_n_0_1_11024 T
    (broadcastInDim S1024x1 ![0] bcast_S1024_S1024x1_0
      (select (cmpi .slt ids (everywhere (constantI S_ 32 0#32))) (addi ids (everywhere (constantI S_ 32 16384#32))) ids))

theorem looked_up_apply (ids : IVec S1024 32) (T : FVec Ideal ReferenceIdeal.S16384x1024 .f32) (t j : Fin 1024) (h : (ids (ix1 t)).toNat < 16384) :
    looked_up ids T (ix2 t j) = T (ix2 ⟨(ids (ix1 t)).toNat, h⟩ j) := by
  have hw := ofNat_toNat_small (ids (ix1 t)) _ rfl
  refine Routing.gather_row ReferenceIdeal.gather_S16384x1024_S1024x1_S1024x1024_1_0_n_n_0_1_11024 rfl rfl rfl rfl rfl T _ t j
    ⟨(ids (ix1 t)).toNat, h⟩ ((column_apply _ t 0).trans ?_) (by decide)
  exact (congrArg (wrapped 16384#32) hw).trans (wrapped_small _ (by omega))

/-- With every row number in range, what each device ends with is what the reference ends with. -/
theorem sum_eq (c : Dev nD) (ids : IVec S1024 32) (T : FVec Ideal ReferenceIdeal.S16384x1024 .f32) (h : ∀ i, (ids i).toNat < 16384) :
    k0_pay1 (block c ids (half c T)) (block (mate c) ids (half (mate c) T)) = looked_up ids T := by
  funext i
  rw [eq_ix2 i]
  exact (sum_apply c ids T (i 0) (i 1) (h _)).trans (looked_up_apply ids T (i 0) (i 1) (h _)).symm

end Cert.KernelIdeal.Exchange

end
-- ==== Proof.Claims.lean ====
/- The claims, each read off the runs. -/
module

public import proofs.«01_k».proof.Defs
public import proofs.«01_k».proof.Proof.Kernel.Run
public import proofs.«01_k».proof.Proof.KernelIdeal.Run
public import proofs.«01_k».proof.Proof.KernelIdeal.Value
public import proofs.«01_k».proof.Proof.Gen.ReferenceIdeal.Run

@[expose] public section

namespace Cert.Proof

open Idealize.ShloMosaic Idealize.ShloMosaic.TcCoe Idealize.SL.Sem

/-! ## The side conditions -/

/-- What the two preconditions state of their shapes. -/
theorem facts_kernel : Cert.Pre_ids_in_range_KernelIdeal.Facts := ⟨by decide⟩
theorem facts_reference : Cert.Pre_ids_in_range_ReferenceIdeal.Facts := ⟨by decide⟩

/-! ## The frames: every execution ends, with the arguments unchanged and every counter at zero -/

theorem frame_kernel : Cert.quiescent_Kernel := fun m ρ _ =>
  (θ_run Cert.Kernel.defs _ _).mono (fun _ h => ⟨fun c => (h.1 c).2, h.2⟩) (Cert.Kernel.Exchange.run m ρ)

theorem frame_ideal : Cert.quiescent_KernelIdeal := fun m ρ _ =>
  (θ_run Cert.KernelIdeal.defs _ _).mono (fun _ h => ⟨fun c => (h.1 c).2, h.2⟩) (Cert.KernelIdeal.Exchange.run m ρ)

/-- The reference has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-! ## The value -/

/-- The precondition, read: every row number is below 16384. -/
theorem in_range (a : IVec Cert.KernelIdeal.S1024 32) (b : FVec Ideal Cert.KernelIdeal.S8192x1024 .f32)
    (h : (haveI := facts_kernel; Cert.Pre_ids_in_range_KernelIdeal.fn (F := Ideal) a b) = fun _ => 1#1) (i : Cert.KernelIdeal.S1024.Idx) :
    (a i).toNat < 16384 :=
  Cert.KernelIdeal.Exchange.range_of_tests (a i) (congrFun h i)

open Cert.KernelIdeal.Exchange Cert.KernelIdeal.Gen in
/-- A device's result is the look-up in the whole table. -/
theorem total_eq (m : (ℓ : Loc Cert.KernelIdeal.nD Cert.KernelIdeal.τ Cert.KernelIdeal.sig) → Buf (Elt Ideal) ℓ)
    (ids : IVec Cert.KernelIdeal.S1024 32) (T : FVec Ideal Cert.ReferenceIdeal.S16384x1024 .f32)
    (hids : ∀ c : Dev Cert.KernelIdeal.nD, m ((c.tc : Thread Cert.KernelIdeal.nD Cert.KernelIdeal.τ).loc Cert.KernelIdeal.main_arg0) = ids)
    (hT : ∀ c : Dev Cert.KernelIdeal.nD, m ((c.tc : Thread Cert.KernelIdeal.nD Cert.KernelIdeal.τ).loc Cert.KernelIdeal.main_arg1) = half c T)
    (h : ∀ i, (ids i).toNat < 16384) (c : Dev Cert.KernelIdeal.nD) : total (entry (V4 m)) c = looked_up ids T := by
  have hpart : ∀ d : Dev Cert.KernelIdeal.nD, entry (V4 m) d = block d ids (half d T) := fun d => by
    refine (V4_v22 m d).trans ?_
    rw [hids d, hT d]
  unfold total
  rw [hpart, hpart]
  exact sum_eq c ids T h

theorem value : haveI := facts_kernel; Cert.algebraic_KernelIdeal_ReferenceIdeal_pre_ids_in_range_KernelIdeal := by
  intro m ρ m' ρ' hpre hagree
  have hids := fun c => (hagree c).1
  have hT := fun c => (hagree c).2
  have hr := fun i => in_range _ _ (hpre 0) i
  rw [hids 0] at hr
  refine ⟨Cert.KernelIdeal.Exchange.looked_up (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono (fun _ h c => ⟨(h.1 c).1.trans (total_eq m _ _ hids hT hr c), (h.1 c).2⟩)
      (Cert.KernelIdeal.Exchange.run m ρ)
  · exact (θ_run Cert.ReferenceIdeal.defs _ _).mono (fun _ h => h 0) (Cert.ReferenceIdeal.Value.run m' ρ')

end Cert.Proof
-- ==== Proof.lean ====
module

public import proofs.«01_k».proof.Defs
public import proofs.«01_k».proof.Proof.Claims

@[expose] public section

namespace Cert.Proof

theorem claim : Cert.Claim :=
  ⟨Cert.Kernel.Gen.facts, Cert.KernelIdeal.Gen.facts, Cert.ReferenceIdeal.Gen.facts, facts_kernel, facts_reference,
    frame_kernel, frame_ideal, fun m ρ _ => frame_ideal m ρ trivial, frame_reference, fun m ρ _ => frame_reference m ρ trivial,
    trivial, value⟩

end Cert.Proof

end
